-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S256x1024 : Shape := ⟨2, ![256, 1024]⟩
abbrev S128x1024 : Shape := ⟨2, ![128, 1024]⟩
abbrev S16 : Shape := ⟨1, ![16]⟩
abbrev S4 : Shape := ⟨1, ![4]⟩
abbrev S1 : Shape := ⟨1, ![1]⟩
abbrev S_ : Shape := ⟨0, ![]⟩
abbrev S1x256x1024 : Shape := ⟨3, ![1, 256, 1024]⟩
abbrev S1x128x1024 : Shape := ⟨3, ![1, 128, 1024]⟩
abbrev S64x1024 : Shape := ⟨2, ![64, 1024]⟩

abbrev nBuf : Space → Nat
  | .hbm => 2
  | .vmem => 6
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S128x1024, .f32⟩
  | .local _ .vmem, ⟨5, _⟩ => ⟨S128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c256_i32 : BitVec 32 := 256#32
  let v35 : BitVec 32 := Scalar.muli v30 c256_i32
  let c0_i32_17 : BitVec 32 := 0#32
  ![0, v35.toNat, 0]
def k0_off2 (d0 : Dev nD) : Fin 3 → Nat :=
  let c0_i32_18 : BitVec 32 := 0#32
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_14 : BitVec 32 := 256#32
  let v36 : BitVec 32 := Scalar.muli v19 c256_i32_14
  let v37 : BitVec 32 := Scalar.addi c512_i32 v36
  let c0_i32_20 : BitVec 32 := 0#32
  ![0, v37.toNat, 0]
def k0_dev1 (d0 : Dev nD) : Nat :=
  let c0_i32_23 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_22 : BitVec 32 := 1#32
  let v47 : BitVec 32 := Scalar.muli v33 c1_i32_22
  let v48 : BitVec 32 := Scalar.addi c0_i32_23 v47
  v48.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.xori v2 c1_i32_13
  let c1_i32_25 : BitVec 32 := 1#32
  let v49 : BitVec 32 := Scalar.muli v34 c1_i32_25
  let v50 : BitVec 32 := Scalar.addi c0_i32_26 v49
  v50.toNat
def k0_off3 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v31 : BitVec 32 := Scalar.subi c1_i32_11 v19
  let c128_i32_39 : BitVec 32 := 128#32
  let v68 : BitVec 32 := Scalar.muli v31 c128_i32_39
  let c0_i32_56 : BitVec 32 := 0#32
  ![v68.toNat, 0]
def k0_off4 (d0 : Dev nD) : Fin 3 → Nat :=
  let c0_i32_51 : BitVec 32 := 0#32
  let c1_i32_12 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let v32 : BitVec 32 := Scalar.subi c1_i32_12 v30
  let c256_i32_37 : BitVec 32 := 256#32
  let v65 : BitVec 32 := Scalar.muli v32 c256_i32_37
  let c1_i32_11 : BitVec 32 := 1#32
  let v31 : BitVec 32 := Scalar.subi c1_i32_11 v19
  let c128_i32_38 : BitVec 32 := 128#32
  let v66 : BitVec 32 := Scalar.muli v31 c128_i32_38
  let v67 : BitVec 32 := Scalar.addi v65 v66
  let c0_i32_57 : BitVec 32 := 0#32
  ![0, v67.toNat, 0]
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.xori v2 c1_i32_13
  let c1_i32_54 : BitVec 32 := 1#32
  let v83 : BitVec 32 := Scalar.muli v34 c1_i32_54
  let v84 : BitVec 32 := Scalar.addi c0_i32_55 v83
  v84.toNat
def k0_off5 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let v32 : BitVec 32 := Scalar.subi c1_i32_12 v30
  let c128_i32_43 : BitVec 32 := 128#32
  let v73 : BitVec 32 := Scalar.muli v32 c128_i32_43
  let c0_i32_63 : BitVec 32 := 0#32
  ![v73.toNat, 0]
def k0_off6 (d0 : Dev nD) : Fin 3 → Nat :=
  let c0_i32_58 : BitVec 32 := 0#32
  let c512_i32_41 : BitVec 32 := 512#32
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v31 : BitVec 32 := Scalar.subi c1_i32_11 v19
  let c256_i32_40 : BitVec 32 := 256#32
  let v69 : BitVec 32 := Scalar.muli v31 c256_i32_40
  let v70 : BitVec 32 := Scalar.addi c512_i32_41 v69
  let c1_i32_12 : BitVec 32 := 1#32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let v32 : BitVec 32 := Scalar.subi c1_i32_12 v30
  let c128_i32_42 : BitVec 32 := 128#32
  let v71 : BitVec 32 := Scalar.muli v32 c128_i32_42
  let v72 : BitVec 32 := Scalar.addi v70 v71
  let c0_i32_64 : BitVec 32 := 0#32
  ![0, v72.toNat, 0]
def k0_dev4 (d0 : Dev nD) : Nat :=
  let c0_i32_62 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_61 : BitVec 32 := 1#32
  let v92 : BitVec 32 := Scalar.muli v33 c1_i32_61
  let v93 : BitVec 32 := Scalar.addi c0_i32_62 v92
  v93.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_46 : BitVec 32 := 128#32
  let v77 : BitVec 32 := Scalar.muli v19 c128_i32_46
  let c0_i32_69 : BitVec 32 := 0#32
  ![v77.toNat, 0]
def k0_off8 (d0 : Dev nD) : Fin 3 → Nat :=
  let c0_i32_65 : BitVec 32 := 0#32
  let c1_i32_12 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let v32 : BitVec 32 := Scalar.subi c1_i32_12 v30
  let c256_i32_44 : BitVec 32 := 256#32
  let v74 : BitVec 32 := Scalar.muli v32 c256_i32_44
  let c128_i32_45 : BitVec 32 := 128#32
  let v75 : BitVec 32 := Scalar.muli v19 c128_i32_45
  let v76 : BitVec 32 := Scalar.addi v74 v75
  let c0_i32_70 : BitVec 32 := 0#32
  ![0, v76.toNat, 0]
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.xori v2 c1_i32_13
  let c1_i32_67 : BitVec 32 := 1#32
  let v101 : BitVec 32 := Scalar.muli v34 c1_i32_67
  let v102 : BitVec 32 := Scalar.addi c0_i32_68 v101
  v102.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c128_i32_50 : BitVec 32 := 128#32
  let v82 : BitVec 32 := Scalar.muli v30 c128_i32_50
  let c0_i32_75 : BitVec 32 := 0#32
  ![v82.toNat, 0]
def k0_off10 (d0 : Dev nD) : Fin 3 → Nat :=
  let c0_i32_71 : BitVec 32 := 0#32
  let c512_i32_48 : BitVec 32 := 512#32
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v31 : BitVec 32 := Scalar.subi c1_i32_11 v19
  let c256_i32_47 : BitVec 32 := 256#32
  let v78 : BitVec 32 := Scalar.muli v31 c256_i32_47
  let v79 : BitVec 32 := Scalar.addi c512_i32_48 v78
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let c128_i32_49 : BitVec 32 := 128#32
  let v80 : BitVec 32 := Scalar.muli v30 c128_i32_49
  let v81 : BitVec 32 := Scalar.addi v79 v80
  let c0_i32_76 : BitVec 32 := 0#32
  ![0, v81.toNat, 0]
def k0_dev6 (d0 : Dev nD) : Nat :=
  let c0_i32_74 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_73 : BitVec 32 := 1#32
  let v110 : BitVec 32 := Scalar.muli v33 c1_i32_73
  let v111 : BitVec 32 := Scalar.addi c0_i32_74 v110
  v111.toNat
def k0_off11 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v31 : BitVec 32 := Scalar.subi c1_i32_11 v19
  let c128_i32_109 : BitVec 32 := 128#32
  let v151 : BitVec 32 := Scalar.muli v31 c128_i32_109
  let v152 : Index := Scalar.indexCast v151
  let c0 : Index := 0#32
  ![v152.toNat, 0]
def k0_off12 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let v32 : BitVec 32 := Scalar.subi c1_i32_12 v30
  let c128_i32_113 : BitVec 32 := 128#32
  let v162 : BitVec 32 := Scalar.muli v32 c128_i32_113
  let v163 : Index := Scalar.indexCast v162
  let c0_114 : Index := 0#32
  ![v163.toNat, 0]
def k0_off13 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v31 : BitVec 32 := Scalar.subi c1_i32_11 v19
  let c128_i32_118 : BitVec 32 := 128#32
  let v173 : BitVec 32 := Scalar.muli v31 c128_i32_118
  let c0_i32_129 : BitVec 32 := 0#32
  ![v173.toNat, 0]
def k0_dev7 (d0 : Dev nD) : Nat :=
  let c0_i32_126 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_125 : BitVec 32 := 1#32
  let v179 : BitVec 32 := Scalar.muli v33 c1_i32_125
  let v180 : BitVec 32 := Scalar.addi c0_i32_126 v179
  v180.toNat
def k0_off14 (d0 : Dev nD) : Fin 2 → Nat :=
  let c1_i32_11 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v31 : BitVec 32 := Scalar.subi c1_i32_11 v19
  let c128_i32_119 : BitVec 32 := 128#32
  let v174 : BitVec 32 := Scalar.muli v31 c128_i32_119
  let c64_i32 : BitVec 32 := 64#32
  let v175 : BitVec 32 := Scalar.addi v174 c64_i32
  let c0_i32_135 : BitVec 32 := 0#32
  ![v175.toNat, 0]
def k0_dev8 (d0 : Dev nD) : Nat :=
  let c0_i32_132 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_131 : BitVec 32 := 1#32
  let v187 : BitVec 32 := Scalar.muli v33 c1_i32_131
  let v188 : BitVec 32 := Scalar.addi c0_i32_132 v187
  v188.toNat
def k0_off15 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let v32 : BitVec 32 := Scalar.subi c1_i32_12 v30
  let c128_i32_120 : BitVec 32 := 128#32
  let v176 : BitVec 32 := Scalar.muli v32 c128_i32_120
  let c0_i32_142 : BitVec 32 := 0#32
  ![v176.toNat, 0]
def k0_dev9 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.xori v2 c1_i32_13
  let c1_i32_138 : BitVec 32 := 1#32
  let v195 : BitVec 32 := Scalar.muli v34 c1_i32_138
  let v196 : BitVec 32 := Scalar.addi c0_i32_139 v195
  v196.toNat
def k0_off16 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let v32 : BitVec 32 := Scalar.subi c1_i32_12 v30
  let c128_i32_121 : BitVec 32 := 128#32
  let v177 : BitVec 32 := Scalar.muli v32 c128_i32_121
  let c64_i32_122 : BitVec 32 := 64#32
  let v178 : BitVec 32 := Scalar.addi v177 c64_i32_122
  let c0_i32_148 : BitVec 32 := 0#32
  ![v178.toNat, 0]
def k0_dev10 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.xori v2 c1_i32_13
  let c1_i32_144 : BitVec 32 := 1#32
  let v203 : BitVec 32 := Scalar.muli v34 c1_i32_144
  let v204 : BitVec 32 := Scalar.addi c0_i32_145 v203
  v204.toNat
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_175 : BitVec 32 := 128#32
  let v235 : BitVec 32 := Scalar.muli v19 c128_i32_175
  let v236 : Index := Scalar.indexCast v235
  let c0_176 : Index := 0#32
  ![v236.toNat, 0]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c128_i32_180 : BitVec 32 := 128#32
  let v246 : BitVec 32 := Scalar.muli v30 c128_i32_180
  let v247 : Index := Scalar.indexCast v246
  let c0_181 : Index := 0#32
  ![v247.toNat, 0]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_211 : BitVec 32 := 128#32
  let v277 : BitVec 32 := Scalar.muli v19 c128_i32_211
  let v278 : Index := Scalar.indexCast v277
  let c0_212 : Index := 0#32
  ![v278.toNat, 0]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c128_i32_216 : BitVec 32 := 128#32
  let v286 : BitVec 32 := Scalar.muli v30 c128_i32_216
  let v287 : Index := Scalar.indexCast v286
  let c0_217 : Index := 0#32
  ![v287.toNat, 0]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c256_i32_28 : BitVec 32 := 256#32
  let v51 : BitVec 32 := Scalar.muli v30 c256_i32_28
  let c128_i32 : BitVec 32 := 128#32
  let v52 : BitVec 32 := Scalar.muli v19 c128_i32
  let v53 : BitVec 32 := Scalar.addi v51 v52
  let c0_i32_227 : BitVec 32 := 0#32
  ![v53.toNat, 0]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_221 : BitVec 32 := 128#32
  let v295 : BitVec 32 := Scalar.muli v19 c128_i32_221
  let c0_i32_228 : BitVec 32 := 0#32
  ![v295.toNat, 0]
def k0_dev11 (d0 : Dev nD) : Nat :=
  let c0_i32_226 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_225 : BitVec 32 := 1#32
  let v297 : BitVec 32 := Scalar.muli v33 c1_i32_225
  let v298 : BitVec 32 := Scalar.addi c0_i32_226 v297
  v298.toNat
def k0_off23 (d0 : Dev nD) : Fin 2 → Nat :=
  let c512_i32_32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_31 : BitVec 32 := 256#32
  let v57 : BitVec 32 := Scalar.muli v19 c256_i32_31
  let v58 : BitVec 32 := Scalar.addi c512_i32_32 v57
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let c128_i32_33 : BitVec 32 := 128#32
  let v59 : BitVec 32 := Scalar.muli v30 c128_i32_33
  let v60 : BitVec 32 := Scalar.addi v58 v59
  let c0_i32_232 : BitVec 32 := 0#32
  ![v60.toNat, 0]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c128_i32_222 : BitVec 32 := 128#32
  let v296 : BitVec 32 := Scalar.muli v30 c128_i32_222
  let c0_i32_233 : BitVec 32 := 0#32
  ![v296.toNat, 0]
def k0_dev12 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.xori v2 c1_i32_13
  let c1_i32_230 : BitVec 32 := 1#32
  let v305 : BitVec 32 := Scalar.muli v34 c1_i32_230
  let v306 : BitVec 32 := Scalar.addi c0_i32_231 v305
  v306.toNat
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_260 : BitVec 32 := 128#32
  let v333 : BitVec 32 := Scalar.muli v19 c128_i32_260
  let c64_i32_261 : BitVec 32 := 64#32
  let v334 : BitVec 32 := Scalar.addi v333 c64_i32_261
  let v335 : Index := Scalar.indexCast v334
  let c0_262 : Index := 0#32
  ![v335.toNat, 0]
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c128_i32_265 : BitVec 32 := 128#32
  let v343 : BitVec 32 := Scalar.muli v30 c128_i32_265
  let c64_i32_266 : BitVec 32 := 64#32
  let v344 : BitVec 32 := Scalar.addi v343 c64_i32_266
  let v345 : Index := Scalar.indexCast v344
  let c0_267 : Index := 0#32
  ![v345.toNat, 0]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c256_i32_28 : BitVec 32 := 256#32
  let v51 : BitVec 32 := Scalar.muli v30 c256_i32_28
  let c128_i32 : BitVec 32 := 128#32
  let v52 : BitVec 32 := Scalar.muli v19 c128_i32
  let v53 : BitVec 32 := Scalar.addi v51 v52
  let c64_i32_273 : BitVec 32 := 64#32
  let v355 : BitVec 32 := Scalar.addi v53 c64_i32_273
  let c0_i32_282 : BitVec 32 := 0#32
  ![v355.toNat, 0]
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32_271 : BitVec 32 := 128#32
  let v353 : BitVec 32 := Scalar.muli v19 c128_i32_271
  let c64_i32_272 : BitVec 32 := 64#32
  let v354 : BitVec 32 := Scalar.addi v353 c64_i32_272
  let c0_i32_283 : BitVec 32 := 0#32
  ![v354.toNat, 0]
def k0_dev13 (d0 : Dev nD) : Nat :=
  let c0_i32_281 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_280 : BitVec 32 := 1#32
  let v361 : BitVec 32 := Scalar.muli v33 c1_i32_280
  let v362 : BitVec 32 := Scalar.addi c0_i32_281 v361
  v362.toNat
def k0_off29 (d0 : Dev nD) : Fin 2 → Nat :=
  let c512_i32_32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_31 : BitVec 32 := 256#32
  let v57 : BitVec 32 := Scalar.muli v19 c256_i32_31
  let v58 : BitVec 32 := Scalar.addi c512_i32_32 v57
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let c128_i32_33 : BitVec 32 := 128#32
  let v59 : BitVec 32 := Scalar.muli v30 c128_i32_33
  let v60 : BitVec 32 := Scalar.addi v58 v59
  let c64_i32_276 : BitVec 32 := 64#32
  let v358 : BitVec 32 := Scalar.addi v60 c64_i32_276
  let c0_i32_287 : BitVec 32 := 0#32
  ![v358.toNat, 0]
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c128_i32_274 : BitVec 32 := 128#32
  let v356 : BitVec 32 := Scalar.muli v30 c128_i32_274
  let c64_i32_275 : BitVec 32 := 64#32
  let v357 : BitVec 32 := Scalar.addi v356 c64_i32_275
  let c0_i32_288 : BitVec 32 := 0#32
  ![v357.toNat, 0]
def k0_dev14 (d0 : Dev nD) : Nat :=
  let c0_i32_286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.xori v2 c1_i32_13
  let c1_i32_285 : BitVec 32 := 1#32
  let v369 : BitVec 32 := Scalar.muli v34 c1_i32_285
  let v370 : BitVec 32 := Scalar.addi c0_i32_286 v369
  v370.toNat
def k0_off31 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c256_i32_28 : BitVec 32 := 256#32
  let v51 : BitVec 32 := Scalar.muli v30 c256_i32_28
  let c128_i32 : BitVec 32 := 128#32
  let v52 : BitVec 32 := Scalar.muli v19 c128_i32
  let v53 : BitVec 32 := Scalar.addi v51 v52
  let c0_i32_292 : BitVec 32 := 0#32
  ![v53.toNat, 0]
def k0_dev15 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.xori v2 c1_i32_13
  let c1_i32_290 : BitVec 32 := 1#32
  let v377 : BitVec 32 := Scalar.muli v34 c1_i32_290
  let v378 : BitVec 32 := Scalar.addi c0_i32_291 v377
  v378.toNat
def k0_off32 (d0 : Dev nD) : Fin 2 → Nat :=
  let c512_i32_32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_31 : BitVec 32 := 256#32
  let v57 : BitVec 32 := Scalar.muli v19 c256_i32_31
  let v58 : BitVec 32 := Scalar.addi c512_i32_32 v57
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let c128_i32_33 : BitVec 32 := 128#32
  let v59 : BitVec 32 := Scalar.muli v30 c128_i32_33
  let v60 : BitVec 32 := Scalar.addi v58 v59
  let c0_i32_297 : BitVec 32 := 0#32
  ![v60.toNat, 0]
def k0_dev16 (d0 : Dev nD) : Nat :=
  let c0_i32_296 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_295 : BitVec 32 := 1#32
  let v385 : BitVec 32 := Scalar.muli v33 c1_i32_295
  let v386 : BitVec 32 := Scalar.addi c0_i32_296 v385
  v386.toNat
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v30 : BitVec 32 := Scalar.xori v29 v19
  let c256_i32_29 : BitVec 32 := 256#32
  let v54 : BitVec 32 := Scalar.muli v30 c256_i32_29
  let c1_i32_11 : BitVec 32 := 1#32
  let v31 : BitVec 32 := Scalar.subi c1_i32_11 v19
  let c128_i32_30 : BitVec 32 := 128#32
  let v55 : BitVec 32 := Scalar.muli v31 c128_i32_30
  let v56 : BitVec 32 := Scalar.addi v54 v55
  let c0_i32_354 : BitVec 32 := 0#32
  ![v56.toNat, 0]
def k0_dev17 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.xori v2 c1_i32_13
  let c1_i32_352 : BitVec 32 := 1#32
  let v443 : BitVec 32 := Scalar.muli v34 c1_i32_352
  let v444 : BitVec 32 := Scalar.addi c0_i32_353 v443
  v444.toNat
def k0_off34 (d0 : Dev nD) : Fin 2 → Nat :=
  let c512_i32_35 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c256_i32_34 : BitVec 32 := 256#32
  let v61 : BitVec 32 := Scalar.muli v19 c256_i32_34
  let v62 : BitVec 32 := Scalar.addi c512_i32_35 v61
  let c1_i32_12 : BitVec 32 := 1#32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.xori v29 v19
  let v32 : BitVec 32 := Scalar.subi c1_i32_12 v30
  let c128_i32_36 : BitVec 32 := 128#32
  let v63 : BitVec 32 := Scalar.muli v32 c128_i32_36
  let v64 : BitVec 32 := Scalar.addi v62 v63
  let c0_i32_359 : BitVec 32 := 0#32
  ![v64.toNat, 0]
def k0_dev18 (d0 : Dev nD) : Nat :=
  let c0_i32_358 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_357 : BitVec 32 := 1#32
  let v451 : BitVec 32 := Scalar.muli v33 c1_i32_357
  let v452 : BitVec 32 := Scalar.addi c0_i32_358 v451
  v452.toNat
-- ==== ReferenceIdeal.lean ====
abbrev S4x1024x1024 : Shape := ⟨3, ![4, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S_, .f32⟩
  | .hbm, ⟨2, _⟩ => ⟨S1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Geometry.lean ====
/-
# Bands of rows

Every piece of memory the kernel moves, reads or writes is a band of consecutive rows, all lanes wide, of one
buffer: of the 1024 rows of the argument or the result, or of one of the six scratch buffers. This file says what
holding such a band means, splits and joins bands, and shows that the views the kernel forms are bands.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.PairWhole
public import Idealize.ShloMosaic.Lib.Tactic

@[expose] public section

noncomputable section

namespace Cert.KernelIdeal.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's copy and the transfers' (two duty names a round). -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Bands -/

/-- The indices whose row is among the `n` rows from `o`. -/
def band (s : Shape) (o n : ℕ) : Finset s.Idx := Finset.univ.filter fun i => o ≤ s.row i ∧ s.row i < o + n

theorem mem_band {s : Shape} {o n : ℕ} {i : s.Idx} : i ∈ band s o n ↔ o ≤ s.row i ∧ s.row i < o + n := by
  simp [band]

theorem band_add (s : Shape) (o n n' : ℕ) : band s o (n + n') = band s o n ∪ band s (o + n) n' := by
  ext i; simp only [Finset.mem_union, mem_band]; omega

theorem band_disjoint (s : Shape) {o n o' n' : ℕ} (h : o + n ≤ o' ∨ o' + n' ≤ o) : Disjoint (band s o n) (band s o' n') := by
  rw [Finset.disjoint_left]; intro i hi hi'; rw [mem_band] at hi hi'; omega

theorem band_univ (s : Shape) (n : ℕ) (h2 : 2 ≤ s.rank) (hn : s.size (s.rowAx h2) ≤ n) : band s 0 n = Finset.univ := by
  ext i
  have := Shape.row_lt_rows h2 i
  rw [Shape.rows_eq_size h2] at this
  simp only [mem_band, Finset.mem_univ, iff_true]; omega

/-- A table of values by row and lane, as contents of buffer `b`. -/
def lift (b : Ref sig .tc) (f : ℕ → ℕ → Elt F b.ty.elt) : b.ty.Contents (Elt F) := fun i => f (b.ty.shape.row i) (b.ty.shape.lane i)

/-- Device `c` holds, at share `q`, the `n` rows from `o` of its buffer `b`, with contents `g`. -/
def heldB (c : Dev nD) (b : Ref sig .tc) (o n : ℕ) (q : PosShare TreeShare) (g : Buf (Elt F) ((c : Thread nD τ).loc b)) : sProp 𝕄 :=
  ((c : Thread nD τ).loc b) ↦[band b.ty.shape o n]{q} g

/-- The same, the contents given as a table. -/
def held (c : Dev nD) (b : Ref sig .tc) (o n : ℕ) (q : PosShare TreeShare) (f : ℕ → ℕ → Elt F b.ty.elt) : sProp 𝕄 :=
  heldB c b o n q (lift b f)

omit [FloatOps F] in
instance heldB_storable (c : Dev nD) (b : Ref sig .tc) (o n q g) : BI.Storable (upEmb : UEmb _ 𝕄) (heldB (F := F) c b o n q g) := by
  unfold heldB; infer_instance
omit [FloatOps F] in
instance held_storable (c : Dev nD) (b : Ref sig .tc) (o n q f) : BI.Storable (upEmb : UEmb _ 𝕄) (held (F := F) c b o n q f) := by
  unfold held; infer_instance

section Bands
variable (c : Dev nD) (b : Ref sig .tc) (o n n' : ℕ) (q : PosShare TreeShare)

omit [FloatOps F] in
theorem heldB_add (g) : heldB (F := F) c b o (n + n') q g = iprop(heldB c b o n q g ∗ heldB c b (o + n) n' q g) := by
  unfold heldB; rw [band_add]
  have h := pointsTo_union (ℓ := (c : Thread nD τ).loc b) (q := q) (f := g) (Ix := Unit) (Name := ℕ) (U := UU) (Lvl := ℕ)
    (band_disjoint b.ty.shape (o := o) (n := n) (o' := o + n) (n' := n') (Or.inl (le_refl _)))
  exact BI.Entails.antisymm h.1 h.2

omit [FloatOps F] in
theorem held_add (f) : held (F := F) c b o (n + n') q f = iprop(held c b o n q f ∗ held c b (o + n) n' q f) := heldB_add c b o n n' q _

omit [FloatOps F] in
theorem heldB_halves (g) : heldB (F := F) c b o n q g = iprop(heldB c b o n q.left g ∗ heldB c b o n q.right g) := by
  unfold heldB
  have h := pointsTo_share (ℓ := (c : Thread nD τ).loc b) (I := band b.ty.shape o n) (f := g) (Ix := Unit) (Name := ℕ) (U := UU) (Lvl := ℕ) (PosShare.mem_left_op_right q)
  exact BI.Entails.antisymm h.1 h.2

omit [FloatOps F] in
theorem held_halves (f) : held (F := F) c b o n q f = iprop(held c b o n q.left f ∗ held c b o n q.right f) := heldB_halves c b o n q _

omit [FloatOps F] in
/-- Two contents that agree on the band's rows hold the same. -/
theorem heldB_congr {g g' : Buf (Elt F) ((c : Thread nD τ).loc b)}
    (h : ∀ i : b.ty.shape.Idx, o ≤ b.ty.shape.row i → b.ty.shape.row i < o + n → g i = g' i) :
    heldB (F := F) c b o n q g = heldB c b o n q g' := by
  unfold heldB
  exact pointsTo_congr fun i hi => h i (mem_band.1 hi).1 (mem_band.1 hi).2

omit [FloatOps F] in
theorem held_congr {f f' : ℕ → ℕ → Elt F b.ty.elt} (h : ∀ r j, o ≤ r → r < o + n → f r j = f' r j) :
    held (F := F) c b o n q f = held c b o n q f' :=
  heldB_congr c b o n q fun i h1 h2 => h _ _ h1 h2

end Bands

/-! ## Views that are bands -/

/-- The view `v` addresses the `n` rows of its buffer from `o`, row by row and lane by lane. -/
structure IsBand {sp : Space} {s : Shape} {e : EltTy} (v : View sig .tc sp s e) (o n : ℕ) : Prop where
  set_eq : v.set = band v.ty.shape o n
  row : ∀ x, v.ty.shape.row (v.emb x) = o + s.row x
  lane : ∀ x, v.ty.shape.lane (v.emb x) = s.lane x

theorem row_of_two {s : Shape} (h2 : 2 ≤ s.rank) (i : s.Idx) : s.row i = i (s.rowAx h2) := by unfold Shape.row; rw [dif_pos h2]
theorem lane_of_one {s : Shape} (h1 : 1 ≤ s.rank) (i : s.Idx) : s.lane i = i (s.laneAx h1) := by unfold Shape.lane; rw [dif_pos h1]

/-- A unit-stride slice of a whole buffer that takes every index of each axis but the row axis is a band. -/
theorem isBand_slice (b : Ref sig .tc) (h2 : 2 ≤ b.ty.shape.rank) {off size : Fin b.ty.shape.rank → ℕ} {inb} {o n : ℕ}
    (ho : off (b.ty.shape.rowAx h2) = o) (hn : size (b.ty.shape.rowAx h2) = n)
    (hz : ∀ a, a ≠ b.ty.shape.rowAx h2 → off a = 0 ∧ size a = b.ty.shape.size a) :
    IsBand ((View.whole b).slice (Rect.unit off size inb)) o n where
  set_eq := by
    rw [View.set_slice_whole]
    ext i
    rw [Rect.mem_set_unit, mem_band]
    show _ ↔ o ≤ b.ty.shape.row i ∧ b.ty.shape.row i < o + n
    rw [row_of_two h2]
    constructor
    · intro h; have := h (b.ty.shape.rowAx h2); rw [ho, hn] at this; exact this
    · intro h a
      by_cases ha : a = b.ty.shape.rowAx h2
      · subst ha; rw [ho, hn]; exact h
      · rw [(hz a ha).1, (hz a ha).2]; exact ⟨Nat.zero_le _, by rw [Nat.zero_add]; exact (i a).isLt⟩
  row x := by
    show b.ty.shape.row ((Rect.unit off size inb).emb x) = _
    rw [row_of_two h2, Rect.emb_apply, row_of_two (s := (Rect.unit off size inb).shape) h2]
    show off _ + 1 * _ = _
    rw [ho, Nat.one_mul]; rfl
  lane x := by
    have h1 : 1 ≤ b.ty.shape.rank := Nat.le_of_succ_le h2
    show b.ty.shape.lane ((Rect.unit off size inb).emb x) = _
    rw [lane_of_one h1, Rect.emb_apply, lane_of_one (s := (Rect.unit off size inb).shape) h1]
    have hne : b.ty.shape.laneAx h1 ≠ b.ty.shape.rowAx h2 := fun h => by
      have := congrArg Fin.val h; simp only [Shape.laneAx, Shape.rowAx] at this; omega
    show off _ + 1 * _ = _
    rw [(hz _ hne).1, Nat.one_mul, Nat.zero_add]; rfl

/-- Counting a band's elements by a shape with the same rows and lanes gives the same band. -/
theorem IsBand.reshape {sp : Space} {s s' : Shape} {e : EltTy} {v : View sig .tc sp s e} {o n : ℕ} (h : IsBand v o n)
    (he : s'.EndsAs s) (hn : s'.numel = s.numel) : IsBand (v.reshape s' hn) o n where
  set_eq := by rw [View.set_reshape]; exact h.set_eq
  row x := by
    show v.ty.shape.row (v.emb (Shape.reshapeEquiv hn x)) = _
    rw [h.row, he.row_reshapeEquiv]
  lane x := by
    show v.ty.shape.lane (v.emb (Shape.reshapeEquiv hn x)) = _
    rw [h.lane, he.lane_reshapeEquiv]

/-- A whole buffer is the band of all its rows. -/
theorem isBand_whole (b : Ref sig .tc) (h2 : 2 ≤ b.ty.shape.rank) {n : ℕ} (hn : b.ty.shape.size (b.ty.shape.rowAx h2) = n) :
    IsBand (View.whole b) 0 n where
  set_eq := by rw [View.set_whole]; exact (band_univ b.ty.shape n h2 hn.le).symm
  row x := (Nat.zero_add _).symm
  lane x := rfl

/-! ## Contents by row and lane, seen through a view -/

/-- The table `f`, started at row `o`, on a shape's indices. -/
def tab {α : Type} (s : Shape) (o : ℕ) (f : ℕ → ℕ → α) : s.Idx → α := fun x => f (o + s.row x) (s.lane x)

section Views
variable {sp : Space} {s : Shape} {e : EltTy} (v : View sig .tc sp s e)

/-- A table of values as contents of the buffer a view is of. -/
def liftV (f : ℕ → ℕ → Elt F e) : v.ty.Contents (Elt F) :=
  fun i => cast (congrArg (Elt F) v.elt_eq.symm) (f (v.ty.shape.row i) (v.ty.shape.lane i))

/-- Device `c` holds the elements under the view, contents a table. -/
def heldV (c : Dev nD) (q : PosShare TreeShare) (f : ℕ → ℕ → Elt F e) : sProp 𝕄 :=
  (v.loc (c : Thread nD τ)) ↦[v.set]{q} liftV v f

omit [FloatOps F] in
/-- What a band's view reads. -/
theorem IsBand.read {v : View sig .tc sp s e} {o n : ℕ} (h : IsBand v o n) (f : ℕ → ℕ → Elt F e) :
    v.read (Elt F) (liftV v f) = tab s o f := by
  funext x
  show cast _ (cast _ (f _ _)) = f _ _
  rw [h.row, h.lane, cast_cast, cast_eq]

omit [FloatOps F] in
/-- A band written over by a table's values holds the table. -/
theorem IsBand.land {v : View sig .tc sp s e} {o n : ℕ} (h : IsBand v o n) (c : Dev nD) {w : s.Idx → Elt F e}
    {g : ℕ → ℕ → Elt F e} (hw : w = tab s o g) (fd : v.ty.Contents (Elt F)) :
    ((v.loc (c : Thread nD τ)) ↦[v.set]{fullShare} (v.write (Elt F) fd w Finset.univ) : sProp 𝕄) = heldV v c fullShare g := by
  unfold heldV
  refine pointsTo_congr fun i hi => ?_
  obtain ⟨x, -, rfl⟩ := Finset.mem_map.1 hi
  rw [View.write_emb_of_mem (h := Finset.mem_univ x), hw]
  unfold liftV tab
  rw [h.row, h.lane]

end Views

end Cert.KernelIdeal.Butterfly

end
-- ==== Proof.Layout.lean ====
/-
# Where everything lies

The four devices form a two by two grid. A device's first coordinate is `px`, its second `py`; `xp` is the device
across the first coordinate and `yp` the one across the second. The 1024 rows are halved: the first half, in
quarters of 256 rows, is reduced across `yp` first and then across `xp`; the second half the other way round.
-/
module

public import proofs.«01_k».proof.Proof.Geometry

@[expose] public section

noncomputable section

namespace Cert.KernelIdeal.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The grid -/

def px (c : Dev nD) : ℕ := c.val / 2
def py (c : Dev nD) : ℕ := ((c.val + 1) / 2) % 2
set_option backward.proofsInPublic true in
def xp (c : Dev nD) : Dev nD := ⟨3 - c.val, by have : c.val < 4 := c.isLt; show 3 - c.val < 4; omega⟩
set_option backward.proofsInPublic true in
def yp (c : Dev nD) : Dev nD := ⟨c.val + 1 - 2 * (c.val % 2), by have : c.val < 4 := c.isLt; show c.val + 1 - 2 * (c.val % 2) < 4; omega⟩

/-- The quarter of the first half a device reduces, its partner's quarter, and which eighth it keeps and gives away
    within a quarter; the same of the second half. -/
def aq (c : Dev nD) : ℕ := 256 * py c
def ar (c : Dev nD) : ℕ := 256 * (1 - py c)
def ae (c : Dev nD) : ℕ := 128 * px c
def ao (c : Dev nD) : ℕ := 128 * (1 - px c)
def bq (c : Dev nD) : ℕ := 512 + 256 * px c
def br (c : Dev nD) : ℕ := 512 + 256 * (1 - px c)
def be (c : Dev nD) : ℕ := 128 * py c
def bo (c : Dev nD) : ℕ := 128 * (1 - py c)

theorem xp_xp (c : Dev nD) : xp (xp c) = c := by revert c; decide
theorem yp_yp (c : Dev nD) : yp (yp c) = c := by revert c; decide
theorem px_lt (c : Dev nD) : px c < 2 := by revert c; decide
theorem py_lt (c : Dev nD) : py c < 2 := by revert c; decide
theorem px_xp (c : Dev nD) : px (xp c) = 1 - px c := by revert c; decide
theorem py_xp (c : Dev nD) : py (xp c) = py c := by revert c; decide
theorem px_yp (c : Dev nD) : px (yp c) = px c := by revert c; decide
theorem py_yp (c : Dev nD) : py (yp c) = 1 - py c := by revert c; decide

/-- The device at given coordinates. -/
def devAt (x y : ℕ) : Dev nD := if x = 0 then (if y = 0 then 0 else 1) else (if y = 0 then 3 else 2)
theorem devAt_eq (c : Dev nD) : devAt (px c) (py c) = c := by revert c; decide

/-! ## The devices the body names -/

theorem dev1_eq (c : Dev nD) : (⟨k0_dev1 c, k0_dev1_lt c⟩ : Dev nD) = xp c := Fin.ext (by revert c; decide +kernel)
theorem dev2_eq (c : Dev nD) : (⟨k0_dev2 c, k0_dev2_lt c⟩ : Dev nD) = yp c := Fin.ext (by revert c; decide +kernel)
theorem dev3_eq (c : Dev nD) : (⟨k0_dev3 c, k0_dev3_lt c⟩ : Dev nD) = yp c := Fin.ext (by revert c; decide +kernel)
theorem dev4_eq (c : Dev nD) : (⟨k0_dev4 c, k0_dev4_lt c⟩ : Dev nD) = xp c := Fin.ext (by revert c; decide +kernel)
theorem dev5_eq (c : Dev nD) : (⟨k0_dev5 c, k0_dev5_lt c⟩ : Dev nD) = yp c := Fin.ext (by revert c; decide +kernel)
theorem dev6_eq (c : Dev nD) : (⟨k0_dev6 c, k0_dev6_lt c⟩ : Dev nD) = xp c := Fin.ext (by revert c; decide +kernel)
theorem dev7_eq (c : Dev nD) : (⟨k0_dev7 c, k0_dev7_lt c⟩ : Dev nD) = xp c := Fin.ext (by revert c; decide +kernel)
theorem dev8_eq (c : Dev nD) : (⟨k0_dev8 c, k0_dev8_lt c⟩ : Dev nD) = xp c := Fin.ext (by revert c; decide +kernel)
theorem dev9_eq (c : Dev nD) : (⟨k0_dev9 c, k0_dev9_lt c⟩ : Dev nD) = yp c := Fin.ext (by revert c; decide +kernel)
theorem dev10_eq (c : Dev nD) : (⟨k0_dev10 c, k0_dev10_lt c⟩ : Dev nD) = yp c := Fin.ext (by revert c; decide +kernel)
theorem dev11_eq (c : Dev nD) : (⟨k0_dev11 c, k0_dev11_lt c⟩ : Dev nD) = xp c := Fin.ext (by revert c; decide +kernel)
theorem dev12_eq (c : Dev nD) : (⟨k0_dev12 c, k0_dev12_lt c⟩ : Dev nD) = yp c := Fin.ext (by revert c; decide +kernel)
theorem dev13_eq (c : Dev nD) : (⟨k0_dev13 c, k0_dev13_lt c⟩ : Dev nD) = xp c := Fin.ext (by revert c; decide +kernel)
theorem dev14_eq (c : Dev nD) : (⟨k0_dev14 c, k0_dev14_lt c⟩ : Dev nD) = yp c := Fin.ext (by revert c; decide +kernel)
theorem dev15_eq (c : Dev nD) : (⟨k0_dev15 c, k0_dev15_lt c⟩ : Dev nD) = yp c := Fin.ext (by revert c; decide +kernel)
theorem dev16_eq (c : Dev nD) : (⟨k0_dev16 c, k0_dev16_lt c⟩ : Dev nD) = xp c := Fin.ext (by revert c; decide +kernel)
theorem dev17_eq (c : Dev nD) : (⟨k0_dev17 c, k0_dev17_lt c⟩ : Dev nD) = yp c := Fin.ext (by revert c; decide +kernel)
theorem dev18_eq (c : Dev nD) : (⟨k0_dev18 c, k0_dev18_lt c⟩ : Dev nD) = xp c := Fin.ext (by revert c; decide +kernel)

/-! ## The offsets the body names -/

/-- The rank-two offset starts at row `o`. -/
def RowAt (off : Fin 2 → ℕ) (o : ℕ) : Prop := off 0 = o ∧ off 1 = 0
instance (off : Fin 2 → ℕ) (o : ℕ) : Decidable (RowAt off o) := by unfold RowAt; infer_instance
/-- The rank-three offset starts at row `o` of the one slab. -/
def SlabAt (off : Fin 3 → ℕ) (o : ℕ) : Prop := off 0 = 0 ∧ off 1 = o ∧ off 2 = 0
instance (off : Fin 3 → ℕ) (o : ℕ) : Decidable (SlabAt off o) := by unfold SlabAt; infer_instance

theorem RowAt.rest {off : Fin 2 → ℕ} {o n N : ℕ} (h : RowAt off o) :
    ∀ a : Fin 2, a ≠ 0 → off a = 0 ∧ (![n, 1024] : Fin 2 → ℕ) a = (![N, 1024] : Fin 2 → ℕ) a :=
  Fin.forall_fin_two.2 ⟨fun h => absurd rfl h, fun _ => ⟨h.2, rfl⟩⟩
theorem SlabAt.rest {off : Fin 3 → ℕ} {o n N : ℕ} (h : SlabAt off o) :
    ∀ a : Fin 3, a ≠ 1 → off a = 0 ∧ (![1, n, 1024] : Fin 3 → ℕ) a = (![1, N, 1024] : Fin 3 → ℕ) a := fun a ha => by
  fin_cases a
  · exact ⟨h.1, rfl⟩
  · exact absurd rfl ha
  · exact ⟨h.2.2, rfl⟩

theorem rowAt_zero : RowAt ![0, 0] 0 := by decide
theorem rowAt_64 : RowAt ![64, 0] 64 := by decide
theorem off3 (c : Dev nD) : RowAt (k0_off3 c) (ao c) := by revert c; decide +kernel
theorem off5 (c : Dev nD) : RowAt (k0_off5 c) (bo c) := by revert c; decide +kernel
theorem off7 (c : Dev nD) : RowAt (k0_off7 c) (ae c) := by revert c; decide +kernel
theorem off9 (c : Dev nD) : RowAt (k0_off9 c) (be c) := by revert c; decide +kernel
theorem off11 (c : Dev nD) : RowAt (k0_off11 c) (ao c) := by revert c; decide +kernel
theorem off12 (c : Dev nD) : RowAt (k0_off12 c) (bo c) := by revert c; decide +kernel
theorem off13 (c : Dev nD) : RowAt (k0_off13 c) (ao c) := by revert c; decide +kernel
theorem off14 (c : Dev nD) : RowAt (k0_off14 c) (ao c + 64) := by revert c; decide +kernel
theorem off15 (c : Dev nD) : RowAt (k0_off15 c) (bo c) := by revert c; decide +kernel
theorem off16 (c : Dev nD) : RowAt (k0_off16 c) (bo c + 64) := by revert c; decide +kernel
theorem off17 (c : Dev nD) : RowAt (k0_off17 c) (ae c) := by revert c; decide +kernel
theorem off18 (c : Dev nD) : RowAt (k0_off18 c) (be c) := by revert c; decide +kernel
theorem off19 (c : Dev nD) : RowAt (k0_off19 c) (ae c) := by revert c; decide +kernel
theorem off20 (c : Dev nD) : RowAt (k0_off20 c) (be c) := by revert c; decide +kernel
theorem off21 (c : Dev nD) : RowAt (k0_off21 c) (aq c + ae c) := by revert c; decide +kernel
theorem off22 (c : Dev nD) : RowAt (k0_off22 c) (ae c) := by revert c; decide +kernel
theorem off23 (c : Dev nD) : RowAt (k0_off23 c) (bq c + be c) := by revert c; decide +kernel
theorem off24 (c : Dev nD) : RowAt (k0_off24 c) (be c) := by revert c; decide +kernel
theorem off25 (c : Dev nD) : RowAt (k0_off25 c) (ae c + 64) := by revert c; decide +kernel
theorem off26 (c : Dev nD) : RowAt (k0_off26 c) (be c + 64) := by revert c; decide +kernel
theorem off27 (c : Dev nD) : RowAt (k0_off27 c) (aq c + ae c + 64) := by revert c; decide +kernel
theorem off28 (c : Dev nD) : RowAt (k0_off28 c) (ae c + 64) := by revert c; decide +kernel
theorem off29 (c : Dev nD) : RowAt (k0_off29 c) (bq c + be c + 64) := by revert c; decide +kernel
theorem off30 (c : Dev nD) : RowAt (k0_off30 c) (be c + 64) := by revert c; decide +kernel
theorem off31 (c : Dev nD) : RowAt (k0_off31 c) (aq c + ae c) := by revert c; decide +kernel
theorem off32 (c : Dev nD) : RowAt (k0_off32 c) (bq c + be c) := by revert c; decide +kernel
theorem off33 (c : Dev nD) : RowAt (k0_off33 c) (aq c + ao c) := by revert c; decide +kernel
theorem off34 (c : Dev nD) : RowAt (k0_off34 c) (bq c + bo c) := by revert c; decide +kernel
theorem off1 (c : Dev nD) : SlabAt (k0_off1 c) (aq c) := by revert c; decide +kernel
theorem off2 (c : Dev nD) : SlabAt (k0_off2 c) (bq c) := by revert c; decide +kernel
theorem off4 (c : Dev nD) : SlabAt (k0_off4 c) (ar c + ao c) := by revert c; decide +kernel
theorem off6 (c : Dev nD) : SlabAt (k0_off6 c) (br c + bo c) := by revert c; decide +kernel
theorem off8 (c : Dev nD) : SlabAt (k0_off8 c) (ar c + ae c) := by revert c; decide +kernel
theorem off10 (c : Dev nD) : SlabAt (k0_off10 c) (br c + be c) := by revert c; decide +kernel

/-! ## The views the body forms -/

/-- A piece of the argument, its leading unit axis dropped. -/
theorem band_arg {off : Fin 3 → ℕ} {n : ℕ} {inb} {hs} {hq : (⟨3, ![1, n, 1024]⟩ : Shape).Squeezes ⟨2, ![n, 1024]⟩} {o : ℕ} (h : SlabAt off o) :
    IsBand (((Memref.whole main_arg0).slice (Rect.unit (s := S1x1024x1024) off ![1, n, 1024] inb) hs).squeeze ⟨2, ![n, 1024]⟩ hq).view o n :=
  (isBand_slice main_arg0 (n := n) (Nat.le_succ 2) h.2.1 rfl h.rest).reshape (Shape.EndsAs.intro (s := ⟨3, ![1, n, 1024]⟩) (s' := ⟨2, ![n, 1024]⟩) (Nat.le_refl 2) (Nat.le_succ 2) rfl rfl) _

/-- A piece of the result. -/
theorem band_out {off : Fin 2 → ℕ} {n : ℕ} {inb} {o : ℕ} (h : RowAt off o) :
    IsBand ((View.whole main_v1).slice (Rect.unit (s := S1024x1024) off ![n, 1024] inb)) o n :=
  isBand_slice main_v1 (by decide) h.1 rfl h.rest

theorem band_s0 {off : Fin 2 → ℕ} {n : ℕ} {inb} {o : ℕ} (h : RowAt off o) :
    IsBand ((View.whole cc0_scratch0).slice (Rect.unit (s := S256x1024) off ![n, 1024] inb)) o n :=
  isBand_slice cc0_scratch0 (by decide) h.1 rfl h.rest

theorem band_s1 {off : Fin 2 → ℕ} {n : ℕ} {inb} {o : ℕ} (h : RowAt off o) :
    IsBand ((View.whole cc0_scratch1).slice (Rect.unit (s := S256x1024) off ![n, 1024] inb)) o n :=
  isBand_slice cc0_scratch1 (by decide) h.1 rfl h.rest

theorem band_s2 {off : Fin 2 → ℕ} {n : ℕ} {inb} {o : ℕ} (h : RowAt off o) :
    IsBand ((View.whole cc0_scratch2).slice (Rect.unit (s := S256x1024) off ![n, 1024] inb)) o n :=
  isBand_slice cc0_scratch2 (by decide) h.1 rfl h.rest

theorem band_s3 {off : Fin 2 → ℕ} {n : ℕ} {inb} {o : ℕ} (h : RowAt off o) :
    IsBand ((View.whole cc0_scratch3).slice (Rect.unit (s := S256x1024) off ![n, 1024] inb)) o n :=
  isBand_slice cc0_scratch3 (by decide) h.1 rfl h.rest

theorem band_s4 {off : Fin 2 → ℕ} {n : ℕ} {inb} {o : ℕ} (h : RowAt off o) :
    IsBand ((View.whole cc0_scratch4).slice (Rect.unit (s := S128x1024) off ![n, 1024] inb)) o n :=
  isBand_slice cc0_scratch4 (by decide) h.1 rfl h.rest

theorem band_s5 {off : Fin 2 → ℕ} {n : ℕ} {inb} {o : ℕ} (h : RowAt off o) :
    IsBand ((View.whole cc0_scratch5).slice (Rect.unit (s := S128x1024) off ![n, 1024] inb)) o n :=
  isBand_slice cc0_scratch5 (by decide) h.1 rfl h.rest

end Cert.KernelIdeal.Butterfly

end
-- ==== Proof.Schedule.lean ====
/-
# The transfers and their protocol

Sixteen transfers leave every device, numbered by the semaphores they use: transfer `k` completes on send semaphore
`k` of its issuer and on receive semaphore `k` of the device it goes to; four more copies stay on the device. Every
semaphore is waited once, so each cell has one round. A cell's payload is what its wait hands back: the piece of
memory a send has finished reading, the piece a receive has filled, both for a local copy; a barrier cell's two
payloads are the pieces the two neighbours are ready to have written.
-/
module

public import proofs.«01_k».proof.Proof.Layout

@[expose] public section

noncomputable section

namespace Cert.KernelIdeal.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents -/

/-- The argument of device `c` at row `r`, lane `j`. -/
def xAt (c : Dev nD) (r j : ℕ) : F .f32 :=
  m ((c : Thread nD τ).loc main_arg0) (show S1x1024x1024.Idx from fun a => match a with
    | ⟨0, _⟩ => (0 : Fin 1)
    | ⟨1, _⟩ => (⟨r % 1024, Nat.mod_lt _ (by decide)⟩ : Fin 1024)
    | ⟨2, _⟩ => (⟨j % 1024, Nat.mod_lt _ (by decide)⟩ : Fin 1024))

/-- The first half: a device's own quarter, what its `yp` neighbour sends of it, their sum; what its `xp` neighbour
    sends of its own such sum, and the sum of all four devices. -/
def A0 (c : Dev nD) (r j : ℕ) : F .f32 := xAt m c (aq c + r) j
def A0in (c : Dev nD) (r j : ℕ) : F .f32 := xAt m (yp c) (aq c + r) j
def A1 (c : Dev nD) (r j : ℕ) : F .f32 := FloatOps.addf (A0 m c r j) (A0in m c r j)
def A1in (c : Dev nD) (r j : ℕ) : F .f32 := A1 m (xp c) (ae c + r) j
def A2 (c : Dev nD) (r j : ℕ) : F .f32 := FloatOps.addf (A1 m c r j) (A1 m (xp c) r j)

/-- The second half, the same with the two neighbours exchanged. -/
def B0 (c : Dev nD) (r j : ℕ) : F .f32 := xAt m c (bq c + r) j
def B0in (c : Dev nD) (r j : ℕ) : F .f32 := xAt m (xp c) (bq c + r) j
def B1 (c : Dev nD) (r j : ℕ) : F .f32 := FloatOps.addf (B0 m c r j) (B0in m c r j)
def B1in (c : Dev nD) (r j : ℕ) : F .f32 := B1 m (yp c) (be c + r) j
def B2 (c : Dev nD) (r j : ℕ) : F .f32 := FloatOps.addf (B1 m c r j) (B1 m (yp c) r j)

/-- The result, the same on every device: each eighth as the device that keeps it computes it. -/
def total (r j : ℕ) : F .f32 :=
  if r < 512 then A2 m (devAt (r % 256 / 128) (r / 256)) (r % 256) j
  else B2 m (devAt ((r - 512) / 256) (r % 256 / 128)) (r % 256) j

omit [FloatOps F] in
/-- The argument's contents are its table. -/
theorem lift_xAt (c : Dev nD) : (lift main_arg0 (xAt m c) : Buf (Elt F) ((c : Thread nD τ).loc main_arg0)) = m ((c : Thread nD τ).loc main_arg0) := by
  funext i
  refine congrArg (m ((c : Thread nD τ).loc main_arg0)) (funext fun a : Fin 3 => ?_)
  have h1 : (i 1).val < 1024 := (i 1).isLt
  have h2 : (i 2).val < 1024 := (i 2).isLt
  fin_cases a
  · exact Fin.ext (by have : (i 0).val < 1 := (i 0).isLt; show 0 = (i 0).val; omega)
  · exact Fin.ext (Nat.mod_eq_of_lt h1)
  · exact Fin.ext (Nat.mod_eq_of_lt h2)

/-- The kept eighth of the first half. -/
theorem total_A (c : Dev nD) (r j : ℕ) (h1 : ae c ≤ r) (h2 : r < ae c + 128) : total m (aq c + r) j = A2 m c r j := by
  have hx := px_lt c; have hy := py_lt c
  unfold ae at h1 h2; unfold total aq
  rw [if_pos (by omega), show (256 * py c + r) % 256 / 128 = px c by omega, show (256 * py c + r) / 256 = py c by omega,
    show (256 * py c + r) % 256 = r by omega, devAt_eq]

/-- The kept eighth of the second half. -/
theorem total_B (c : Dev nD) (r j : ℕ) (h1 : be c ≤ r) (h2 : r < be c + 128) : total m (bq c + r) j = B2 m c r j := by
  have hx := px_lt c; have hy := py_lt c
  unfold be at h1 h2; unfold total bq
  rw [if_neg (by omega), show (512 + 256 * px c + r - 512) / 256 = px c by omega, show (512 + 256 * px c + r) % 256 / 128 = py c by omega,
    show (512 + 256 * px c + r) % 256 = r by omega, devAt_eq]

/-! ## The transfers -/

/-- The neighbour transfer `k` goes to, and comes from. -/
def peer (k : ℕ) (c : Dev nD) : Dev nD :=
  match k with
  | 0 | 10 | 3 | 13 | 5 | 15 | 6 | 7 => yp c
  | _ => xp c

theorem peer_or (k : ℕ) : peer k = yp ∨ peer k = xp := by
  unfold peer
  by_cases h : k = 0 ∨ k = 10 ∨ k = 3 ∨ k = 13 ∨ k = 5 ∨ k = 15 ∨ k = 6 ∨ k = 7
  · left; funext c; rcases h with rfl | rfl | rfl | rfl | rfl | rfl | rfl | rfl <;> rfl
  · right; funext c; split <;> first | rfl | (exfalso; omega)

theorem peer_peer (k : ℕ) (c : Dev nD) : peer k (peer k c) = c := by
  rcases peer_or k with h | h <;> rw [h]
  · exact yp_yp c
  · exact xp_xp c

/-- The rows a DMA semaphore's transfer moves. -/
def rows : ℕ → ℕ
  | 32 | 33 => 256
  | 2 | 3 | 4 | 5 | 12 | 13 | 14 | 15 | 18 | 19 | 20 | 21 | 28 | 29 | 30 | 31 => 64
  | _ => 128

/-- What it credits. -/
def amt (s : ℕ) : ℕ := RefSig.tileCredit ⟨2, ![rows s, 1024]⟩ .f32

theorem amt_pos (s : ℕ) : 0 < amt s := by
  unfold amt
  have : rows s = 256 ∨ rows s = 64 ∨ rows s = 128 := by unfold rows; split <;> decide
  rcases this with h | h | h <;> rw [h] <;> decide

/-- DMA semaphore `s`: sends 0 to 15, receives 16 to 31, local copies 32 to 35. -/
abbrev dsem (s : ℕ) : DmaSem sig := (⟨s % 36, Nat.mod_lt _ (by decide)⟩ : Fin 36)

/-- Device `d`'s piece that transfer `k` fills, not yet filled. -/
def ready (d : Dev nD) (k : ℕ) : sProp 𝕄 :=
  match k with
  | 0 => iprop(∃ g, heldB d cc0_scratch2 (ao d) 128 fullShare g)
  | 1 => iprop(∃ g, heldB d cc0_scratch3 (bo d) 128 fullShare g)
  | 2 => iprop(∃ g, heldB d cc0_scratch4 0 64 fullShare g)
  | 3 => iprop(∃ g, heldB d cc0_scratch5 0 64 fullShare g)
  | 4 => iprop(∃ g, heldB d main_v1 (aq d + ao d) 64 fullShare g)
  | 5 => iprop(∃ g, heldB d main_v1 (bq d + bo d) 64 fullShare g)
  | 6 => iprop(∃ g, heldB d main_v1 (ar d + ae d) 128 fullShare g)
  | 7 => iprop(∃ g, heldB d main_v1 (ar d + ao d) 128 fullShare g)
  | 8 => iprop(∃ g, heldB d main_v1 (br d + be d) 128 fullShare g)
  | 9 => iprop(∃ g, heldB d main_v1 (br d + bo d) 128 fullShare g)
  | 10 => iprop(∃ g, heldB d cc0_scratch2 (ae d) 128 fullShare g)
  | 11 => iprop(∃ g, heldB d cc0_scratch3 (be d) 128 fullShare g)
  | 12 => iprop(∃ g, heldB d cc0_scratch4 64 64 fullShare g)
  | 13 => iprop(∃ g, heldB d cc0_scratch5 64 64 fullShare g)
  | 14 => iprop(∃ g, heldB d main_v1 (aq d + ao d + 64) 64 fullShare g)
  | _ => iprop(∃ g, heldB d main_v1 (bq d + bo d + 64) 64 fullShare g)

/-- What the wait on DMA semaphore `s` of device `d` hands back. -/
def pay (d : Dev nD) (s : ℕ) : sProp 𝕄 :=
  match s with
  | 0 => held d main_arg0 (ar d + ao d) 128 fullShare (xAt m d)
  | 1 => held d main_arg0 (br d + bo d) 128 fullShare (xAt m d)
  | 2 => held d cc0_scratch0 (ao d) 64 fullShare (A1 m d)
  | 3 => held d cc0_scratch1 (bo d) 64 fullShare (B1 m d)
  | 4 => held d cc0_scratch0 (ae d) 64 fullShare.left (A2 m d)
  | 5 => held d cc0_scratch1 (be d) 64 fullShare.left (B2 m d)
  | 6 => held d cc0_scratch0 (ae d) 128 fullShare.right.left (A2 m d)
  | 7 => held d main_v1 (aq d + ao d) 128 fullShare (total m)
  | 8 => held d cc0_scratch1 (be d) 128 fullShare.right.left (B2 m d)
  | 9 => held d main_v1 (bq d + bo d) 128 fullShare (total m)
  | 10 => held d main_arg0 (ar d + ae d) 128 fullShare (xAt m d)
  | 11 => held d main_arg0 (br d + be d) 128 fullShare (xAt m d)
  | 12 => held d cc0_scratch0 (ao d + 64) 64 fullShare (A1 m d)
  | 13 => held d cc0_scratch1 (bo d + 64) 64 fullShare (B1 m d)
  | 14 => held d cc0_scratch0 (ae d + 64) 64 fullShare.left (A2 m d)
  | 15 => held d cc0_scratch1 (be d + 64) 64 fullShare.left (B2 m d)
  | 16 => held d cc0_scratch2 (ao d) 128 fullShare (A0in m d)
  | 17 => held d cc0_scratch3 (bo d) 128 fullShare (B0in m d)
  | 18 => held d cc0_scratch4 0 64 fullShare (A1in m d)
  | 19 => held d cc0_scratch5 0 64 fullShare (B1in m d)
  | 20 => held d main_v1 (aq d + ao d) 64 fullShare (total m)
  | 21 => held d main_v1 (bq d + bo d) 64 fullShare (total m)
  | 22 => held d main_v1 (ar d + ae d) 128 fullShare (total m)
  | 23 => held d main_v1 (ar d + ao d) 128 fullShare (total m)
  | 24 => held d main_v1 (br d + be d) 128 fullShare (total m)
  | 25 => held d main_v1 (br d + bo d) 128 fullShare (total m)
  | 26 => held d cc0_scratch2 (ae d) 128 fullShare (A0in m d)
  | 27 => held d cc0_scratch3 (be d) 128 fullShare (B0in m d)
  | 28 => held d cc0_scratch4 64 64 fullShare (A1in m d)
  | 29 => held d cc0_scratch5 64 64 fullShare (B1in m d)
  | 30 => held d main_v1 (aq d + ao d + 64) 64 fullShare (total m)
  | 31 => held d main_v1 (bq d + bo d + 64) 64 fullShare (total m)
  | 32 => iprop(held d cc0_scratch0 0 256 fullShare (A0 m d) ∗ held d main_arg0 (aq d) 256 fullShare (xAt m d))
  | 33 => iprop(held d cc0_scratch1 0 256 fullShare (B0 m d) ∗ held d main_arg0 (bq d) 256 fullShare (xAt m d))
  | 34 => iprop(held d main_v1 (aq d + ae d) 128 fullShare (total m) ∗ held d cc0_scratch0 (ae d) 128 fullShare.right.right (A2 m d))
  | _ => iprop(held d main_v1 (bq d + be d) 128 fullShare (total m) ∗ held d cc0_scratch1 (be d) 128 fullShare.right.right (B2 m d))

omit [FloatOps F] in
instance ready_storable (d : Dev nD) (k : ℕ) : BI.Storable (upEmb : UEmb _ 𝕄) (ready (F := F) d k) := by
  unfold ready; split <;> infer_instance
instance pay_storable (d : Dev nD) (s : ℕ) : BI.Storable (upEmb : UEmb _ 𝕄) (pay m d s) := by
  unfold pay; split <;> infer_instance

/-- What a device tells its `yp` neighbour it is ready for, and its `xp` neighbour. -/
def readyY (d : Dev nD) : sProp 𝕄 := iprop(ready d 0 ∗ ready d 10 ∗ ready d 3 ∗ ready d 13 ∗ ready d 5 ∗ ready d 15 ∗ ready d 6 ∗ ready d 7)
def readyX (d : Dev nD) : sProp 𝕄 := iprop(ready d 1 ∗ ready d 11 ∗ ready d 2 ∗ ready d 12 ∗ ready d 4 ∗ ready d 14 ∗ ready d 8 ∗ ready d 9)

omit [FloatOps F] in
instance readyY_storable (d : Dev nD) : BI.Storable (upEmb : UEmb _ 𝕄) (readyY (F := F) d) := by unfold readyY; infer_instance
omit [FloatOps F] in
instance readyX_storable (d : Dev nD) : BI.Storable (upEmb : UEmb _ 𝕄) (readyX (F := F) d) := by unfold readyX; infer_instance

/-! ## The protocol -/

/-- The runtime's barrier semaphore. -/
abbrev barS : Sem sig := (SemArray.scalar (sig.barrier 0 rfl) : Sems sig S_).sem
/-- A cell of a device. -/
abbrev cell (c : Dev nD) (sm : SemLoc sig) : GSem nD τ sig := ((c : Thread nD τ), sm)
abbrev bcell (c : Dev nD) : GSem nD τ sig := cell c (.reg barS)
abbrev dcell (c : Dev nD) (s : ℕ) : GSem nD τ sig := cell c (.dma (dsem s))

/-- One round: a barrier cell has two duties of one unit, paid by the `xp` (`false`) and the `yp` (`true`) neighbour; a
    DMA cell one duty. -/
def rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => amt s.val
  payload g _ d := match g.2 with
    | .reg _ => (match d with | true => readyY (yp g.1.1) | false => readyX (xp g.1.1))
    | .dma s => pay m g.1.1 s.val
  amount_pos g _ _ _ := by
    rcases g with ⟨t, sm | sm⟩
    · exact Nat.one_pos
    · exact amt_pos _

instance rd_payload_storable (g : GSem nD τ sig) (r : ℕ) (d : Bool) : BI.Storable (upEmb : UEmb _ 𝕄) ((rd m).payload g r d) := by
  rcases g with ⟨t, sm | sm⟩
  · cases d
    · show BI.Storable upEmb (readyX (xp t.1)); infer_instance
    · show BI.Storable upEmb (readyY (yp t.1)); infer_instance
  · show BI.Storable upEmb (pay m t.1 sm.val); infer_instance

theorem payload_bar_false (c : Dev nD) : (rd m).payload (bcell (xp c)) 0 false = readyX c := by
  show readyX (xp (xp c)) = _; rw [xp_xp]
theorem payload_bar_true (c : Dev nD) : (rd m).payload (bcell (yp c)) 0 true = readyY c := by
  show readyY (yp (yp c)) = _; rw [yp_yp]
theorem duties_bar (c : Dev nD) : (rd m).duties (bcell c) 0 = Finset.univ := by dsimp only [rd]; exact if_pos ⟨rfl, rfl⟩
theorem duties_dma (c : Dev nD) (s : DmaSem sig) : (rd m).duties (cell c (.dma s)) 0 = {false} := by dsimp only [rd]; exact if_pos ⟨rfl, rfl⟩
theorem duties_later (g : GSem nD τ sig) : ∀ r, 1 ≤ r → (rd m).duties g r = ∅ := fun r hr => if_neg fun h => by omega

theorem expect_bar (c : Dev nD) : (rd m).expect (bcell c) 0 = 2 := by
  unfold Schedule.expect Schedule.amountOf
  rw [duties_bar]; rfl
theorem expect_dma (c : Dev nD) (s : DmaSem sig) : (rd m).expect (cell c (.dma s)) 0 = amt s.val := by
  unfold Schedule.expect Schedule.amountOf; rw [duties_dma, Finset.sum_singleton]; rfl

theorem rest_bar (c : Dev nD) : bigSep ((rd m).duties (bcell c) 0 \ ∅) (fun d => (rd m).payload (bcell c) 0 d) = iprop(readyX (xp c) ∗ readyY (yp c)) := by
  rw [Finset.sdiff_empty, duties_bar, bigSep_univ_eq_bigSepL [false, true] (by decide) (by decide), bigSepL_cons_cons, bigSepL_singleton]
  rfl
theorem rest_dma (c : Dev nD) (s : DmaSem sig) : bigSep ((rd m).duties (cell c (.dma s)) 0 \ ∅) (fun d => (rd m).payload (cell c (.dma s)) 0 d) = pay m c s.val := by
  rw [Finset.sdiff_empty, duties_dma, bigSep_singleton]; rfl

/-! ## What a device owes, and the order of the waits -/

/-- The transfers in the order the body issues them. -/
def sends : List ℕ := [0, 1, 10, 11, 2, 12, 3, 13, 4, 5, 14, 15, 6, 8, 7, 9]

/-- What a device owes that has yet to issue the transfers of a list. -/
def dues (c : Dev nD) : List ℕ → CellTallies nD τ sig Unit
  | [] => 0
  | k :: l => dues c l + tallyAt (dcell (peer k c) (16 + k)) () (amt (16 + k))

/-- What it owes at launch: one unit to each neighbour's barrier cell besides. -/
def dues₁ (c : Dev nD) : CellTallies nD τ sig Unit := dues c sends + tallyAt (bcell (yp c)) () 1
def dues₀ (c : Dev nD) : CellTallies nD τ sig Unit := dues₁ c + tallyAt (bcell (xp c)) () 1

/-- A wait may be made while owing only cells of a higher level: sends and local copies, the barrier, then the
    receives in the order of the kernel's four phases. -/
def lvD : ℕ → ℕ
  | 16 | 17 | 26 | 27 => 2
  | 18 | 28 | 19 | 29 => 3
  | 20 | 30 | 21 | 31 => 4
  | 22 | 23 | 24 | 25 => 5
  | _ => 0
def lvS : SemLoc sig → ℕ
  | .reg _ => 1
  | .dma s => lvD s.val
def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem dues_pos {c : Dev nD} {l : List ℕ} {g : GSem nD τ sig} {u : Unit} (h : 0 < dues c l g u) :
    ∃ k ∈ l, g = dcell (peer k c) (16 + k) := by
  induction l with
  | nil => exact absurd h (Nat.lt_irrefl 0)
  | cons k l ih =>
    unfold dues at h
    rw [Pi.add_apply, Finsupp.add_apply] at h
    rcases Nat.eq_zero_or_pos (dues c l g u) with h0 | h0
    · rw [h0, Nat.zero_add] at h
      exact ⟨k, List.mem_cons_self, tallyAt_pos h⟩
    · obtain ⟨k', hk', e⟩ := ih h0
      exact ⟨k', List.mem_cons_of_mem _ hk', e⟩

omit [FloatOps F] in
theorem mayWait (c : Dev nD) (sm : SemLoc sig) (l : List ℕ) (h : ∀ k ∈ l, lvS sm < lvS (.dma (dsem (16 + k)))) :
    (levAts L lv : sProp 𝕄) ⊢ MayWait (c : Thread nD τ) sm () (dues c l) :=
  MayOwe.of_cut (L := L) (lev := lv) (lvS sm) (fun p hp => by rw [Finset.mem_singleton.mp hp, L_tc]; exact Finset.mem_singleton_self _)
    (fun g u hg => by obtain ⟨k, -, rfl⟩ := dues_pos hg; exact Finset.mem_singleton_self _)
    (fun p hp => by rw [Finset.mem_singleton.mp hp]; exact le_refl _)
    (fun g u hg => by obtain ⟨k, hk, rfl⟩ := dues_pos hg; exact h k hk)

end Cert.KernelIdeal.Butterfly

end
-- ==== Proof.Steps.lean ====
/-
# One step of the body at a time

The rules the body is executed with: starting a transfer, waiting on a DMA semaphore, a local copy, a load and a
store, each over the bands and cells of this kernel.
-/
module

public import proofs.«01_k».proof.Proof.Schedule

@[expose] public section

noncomputable section

namespace Cert.KernelIdeal.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## How the neighbours' offsets compare -/

theorem aq_yp (c : Dev nD) : aq (yp c) = ar c := by revert c; decide
theorem aq_xp (c : Dev nD) : aq (xp c) = aq c := by revert c; decide
theorem ar_yp (c : Dev nD) : ar (yp c) = aq c := by revert c; decide
theorem ae_yp (c : Dev nD) : ae (yp c) = ae c := by revert c; decide
theorem ao_yp (c : Dev nD) : ao (yp c) = ao c := by revert c; decide
theorem ae_xp (c : Dev nD) : ae (xp c) = ao c := by revert c; decide
theorem ao_xp (c : Dev nD) : ao (xp c) = ae c := by revert c; decide
theorem bq_xp (c : Dev nD) : bq (xp c) = br c := by revert c; decide
theorem bq_yp (c : Dev nD) : bq (yp c) = bq c := by revert c; decide
theorem br_xp (c : Dev nD) : br (xp c) = bq c := by revert c; decide
theorem be_xp (c : Dev nD) : be (xp c) = be c := by revert c; decide
theorem bo_xp (c : Dev nD) : bo (xp c) = bo c := by revert c; decide
theorem be_yp (c : Dev nD) : be (yp c) = bo c := by revert c; decide
theorem bo_yp (c : Dev nD) : bo (yp c) = be c := by revert c; decide

/-! ## What the steps share -/

/-- The protocol's records: every cell's invariant, every cell at its round, and the levels. -/
def env : sProp 𝕄 :=
  iprop(bigSep Finset.univ (fun p : Dev nD × SemLoc sig => cellInv ER (rd m) (K p) (cell p.1 p.2))
    ∗ bigSep Finset.univ (fun p : Dev nD × SemLoc sig => reached ER (cell p.1 p.2) 0) ∗ levAts L lv)

instance env_persistent : BI.Persistent (env m K) := by unfold env; infer_instance

theorem env_inv (c : Dev nD) (sm : SemLoc sig) : env m K ⊢ cellInv ER (rd m) (K (c, sm)) (cell c sm) := by
  unfold env
  exact sep_elim_left.trans (bigSep_elim (Finset.mem_univ (c, sm)))
theorem env_reached (c : Dev nD) (sm : SemLoc sig) : env m K ⊢ reached ER (cell c sm) 0 := by
  unfold env
  exact sep_elim_right.trans (sep_elim_left.trans (bigSep_elim (Finset.mem_univ (c, sm))))
theorem env_levels : env m K ⊢ levAts L lv := by
  unfold env; iintro ⟨-, -, H⟩; iexact H

/-- A device that has issued the first `n` transfers owes the others. -/
def owing (c : Dev nD) (n : ℕ) : sProp 𝕄 := iprop(∃ W, owes (c : Thread nD τ) (dues c (sends.drop n)) W)

/-- The right to wait on DMA semaphore `s`. -/
def waiting (c : Dev nD) (s : ℕ) : sProp 𝕄 := iprop(cred (tallyAt (dcell c s) () (amt s)) ∗ atPos ER (dcell c s) 0 ∅ 0)
/-- The right to make transfer `k`. -/
def sendTok (c : Dev nD) (k : ℕ) : sProp 𝕄 :=
  iprop(dutyTok ER (dcell c k) 0 false ∗ dutyTok ER (dcell (peer k c) (16 + k)) 0 false ∗ atPos ER (dcell c k) 0 ∅ 0)
/-- The right to make the local copy on DMA semaphore `s`. -/
def localTok (c : Dev nD) (s : ℕ) : sProp 𝕄 := iprop(dutyTok ER (dcell c s) 0 false ∗ atPos ER (dcell c s) 0 ∅ 0)
/-- All it takes to make transfer `k`: the piece read, the piece to write, the right. -/
def sending (c : Dev nD) (k : ℕ) : sProp 𝕄 := iprop(pay m c k ∗ ready (peer k c) k ∗ sendTok c k)
/-- DMA semaphore `s` is back at zero for good. -/
def done (c : Dev nD) (s : ℕ) : sProp 𝕄 := semVal (dcell c s) 0

/-- The state of a device running program `p`. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem run_ret {α : Type} (c : Dev nD) (a : α) (Q : α → sProp 𝕄) : Q a ⊢ Run c (.ret a) Q := by
  show _ ⊢ wp _ _ _ _ _
  rw [wp_ret]
  exact fupd_intro

/-- A program that ends with a value, the value under another name. -/
theorem run_eq {α : Type} {c : Dev nD} {a : α} {Q : α → sProp 𝕄} (b : α) (h : a = b) : Q b ⊢ Run c (.ret a) Q := h ▸ run_ret c a Q

/-! ## Bands again -/

/-- What is held under a view, the band it addresses spelt out. -/
def heldW {sp : Space} {s : Shape} {e : EltTy} (v : View sig .tc sp s e) (c : Dev nD) (o n : ℕ) (q : PosShare TreeShare) (f : ℕ → ℕ → Elt F e) : sProp 𝕄 :=
  (v.loc (c : Thread nD τ)) ↦[band v.ty.shape o n]{q} liftV v f

/-- A band with whatever contents. -/
def freeW {sp : Space} {s : Shape} {e : EltTy} (v : View sig .tc sp s e) (c : Dev nD) (o n : ℕ) : sProp 𝕄 :=
  iprop(∃ g : Buf (Elt F) (v.loc (c : Thread nD τ)), (v.loc (c : Thread nD τ)) ↦[band v.ty.shape o n]{fullShare} g)

omit [FloatOps F] in
theorem IsBand.held_eq {sp : Space} {s : Shape} {e : EltTy} {v : View sig .tc sp s e} {o n : ℕ} (h : IsBand v o n) (c : Dev nD)
    (q : PosShare TreeShare) (f : ℕ → ℕ → Elt F e) : heldW v c o n q f = ((v.loc (c : Thread nD τ)) ↦[v.set]{q} liftV v f : sProp 𝕄) := by
  unfold heldW; rw [h.set_eq]

theorem IsBand.row_lt {sp : Space} {s : Shape} {e : EltTy} {v : View sig .tc sp s e} {o n : ℕ} (h : IsBand v o n) (x : s.Idx) : s.row x < n := by
  have hx : v.emb x ∈ v.set := Finset.mem_map.2 ⟨x, Finset.mem_univ _, rfl⟩
  rw [h.set_eq, mem_band, h.row] at hx
  omega

/-- Tables that agree on a band's rows look the same through its view. -/
theorem IsBand.tab_eq {sp : Space} {s : Shape} {e : EltTy} {v : View sig .tc sp s e} {o n : ℕ} (h : IsBand v o n) {o₁ o₂ : ℕ}
    {α : Type} {f g : ℕ → ℕ → α} (hw : ∀ r j, r < n → f (o₁ + r) j = g (o₂ + r) j) : tab s o₁ f = tab s o₂ g :=
  funext fun x => hw _ _ (h.row_lt x)

/-- The view `v` addresses the `n` rows from `o` of the buffer that `H` holds with a table, and `E` with any contents. -/
structure Win {sp : Space} {s : Shape} (v : View sig .tc sp s .f32) (o n : ℕ)
    (H : Dev nD → ℕ → PosShare TreeShare → (ℕ → ℕ → F .f32) → sProp (MT nD τ sig Unit (Elt F) ℕ UU ℕ))
    (E : Dev nD → ℕ → sProp (MT nD τ sig Unit (Elt F) ℕ UU ℕ)) : Prop where
  band : IsBand v o n
  full : ∀ c q f, H c o q f = heldW v c o n q f
  free : ∀ c, E c o = freeW v c o n

/-- Device `d` holds rows of its buffer `b` with whatever contents. -/
abbrev free (d : Dev nD) (b : Ref sig .tc) (o n : ℕ) : sProp 𝕄 := iprop(∃ g, heldB d b o n fullShare g)

/-- The views the body forms, as the body forms them: a window of a buffer, and what a load or store accesses. -/
theorem win_arg {off : Fin 3 → ℕ} (n : ℕ) {inb} {hs} {hq : (⟨3, ![1, n, 1024]⟩ : Shape).Squeezes ⟨2, ![n, 1024]⟩} {o : ℕ} (h : SlabAt off o) :
    Win (F := F) (((Memref.whole main_arg0).slice (Rect.unit (s := S1x1024x1024) off ![1, n, 1024] inb) hs).squeeze ⟨2, ![n, 1024]⟩ hq).view o n
      (fun c o q f => held c main_arg0 o n q f) (fun c o => free c main_arg0 o n) := ⟨band_arg h, fun _ _ _ => rfl, fun _ => rfl⟩
theorem win_out {off : Fin 2 → ℕ} (n : ℕ) {inb} {hs} {o : ℕ} (h : RowAt off o) :
    Win (F := F) ((Memref.whole main_v1).slice (Rect.unit (s := S1024x1024) off ![n, 1024] inb) hs).view o n
      (fun c o q f => held c main_v1 o n q f) (fun c o => free c main_v1 o n) := ⟨band_out h, fun _ _ _ => rfl, fun _ => rfl⟩
theorem win_s0 {off : Fin 2 → ℕ} (n : ℕ) {inb} {hs} {o : ℕ} (h : RowAt off o) :
    Win (F := F) ((Memref.whole cc0_scratch0).slice (Rect.unit (s := S256x1024) off ![n, 1024] inb) hs).view o n
      (fun c o q f => held c cc0_scratch0 o n q f) (fun c o => free c cc0_scratch0 o n) := ⟨band_s0 h, fun _ _ _ => rfl, fun _ => rfl⟩
theorem acc_s0 {off : Fin 2 → ℕ} (n : ℕ) {inb} {o : ℕ} (h : RowAt off o) :
    Win (F := F) ((Memref.whole cc0_scratch0).access (Rect.unit (s := S256x1024) off ![n, 1024] inb)) o n
      (fun c o q f => held c cc0_scratch0 o n q f) (fun c o => free c cc0_scratch0 o n) := ⟨band_s0 h, fun _ _ _ => rfl, fun _ => rfl⟩
theorem win_s1 {off : Fin 2 → ℕ} (n : ℕ) {inb} {hs} {o : ℕ} (h : RowAt off o) :
    Win (F := F) ((Memref.whole cc0_scratch1).slice (Rect.unit (s := S256x1024) off ![n, 1024] inb) hs).view o n
      (fun c o q f => held c cc0_scratch1 o n q f) (fun c o => free c cc0_scratch1 o n) := ⟨band_s1 h, fun _ _ _ => rfl, fun _ => rfl⟩
theorem acc_s1 {off : Fin 2 → ℕ} (n : ℕ) {inb} {o : ℕ} (h : RowAt off o) :
    Win (F := F) ((Memref.whole cc0_scratch1).access (Rect.unit (s := S256x1024) off ![n, 1024] inb)) o n
      (fun c o q f => held c cc0_scratch1 o n q f) (fun c o => free c cc0_scratch1 o n) := ⟨band_s1 h, fun _ _ _ => rfl, fun _ => rfl⟩
theorem win_s2 {off : Fin 2 → ℕ} (n : ℕ) {inb} {hs} {o : ℕ} (h : RowAt off o) :
    Win (F := F) ((Memref.whole cc0_scratch2).slice (Rect.unit (s := S256x1024) off ![n, 1024] inb) hs).view o n
      (fun c o q f => held c cc0_scratch2 o n q f) (fun c o => free c cc0_scratch2 o n) := ⟨band_s2 h, fun _ _ _ => rfl, fun _ => rfl⟩
theorem acc_s2 {off : Fin 2 → ℕ} (n : ℕ) {inb} {o : ℕ} (h : RowAt off o) :
    Win (F := F) ((Memref.whole cc0_scratch2).access (Rect.unit (s := S256x1024) off ![n, 1024] inb)) o n
      (fun c o q f => held c cc0_scratch2 o n q f) (fun c o => free c cc0_scratch2 o n) := ⟨band_s2 h, fun _ _ _ => rfl, fun _ => rfl⟩
theorem win_s3 {off : Fin 2 → ℕ} (n : ℕ) {inb} {hs} {o : ℕ} (h : RowAt off o) :
    Win (F := F) ((Memref.whole cc0_scratch3).slice (Rect.unit (s := S256x1024) off ![n, 1024] inb) hs).view o n
      (fun c o q f => held c cc0_scratch3 o n q f) (fun c o => free c cc0_scratch3 o n) := ⟨band_s3 h, fun _ _ _ => rfl, fun _ => rfl⟩
theorem acc_s3 {off : Fin 2 → ℕ} (n : ℕ) {inb} {o : ℕ} (h : RowAt off o) :
    Win (F := F) ((Memref.whole cc0_scratch3).access (Rect.unit (s := S256x1024) off ![n, 1024] inb)) o n
      (fun c o q f => held c cc0_scratch3 o n q f) (fun c o => free c cc0_scratch3 o n) := ⟨band_s3 h, fun _ _ _ => rfl, fun _ => rfl⟩
theorem win_s4 {off : Fin 2 → ℕ} (n : ℕ) {inb} {hs} {o : ℕ} (h : RowAt off o) :
    Win (F := F) ((Memref.whole cc0_scratch4).slice (Rect.unit (s := S128x1024) off ![n, 1024] inb) hs).view o n
      (fun c o q f => held c cc0_scratch4 o n q f) (fun c o => free c cc0_scratch4 o n) := ⟨band_s4 h, fun _ _ _ => rfl, fun _ => rfl⟩
theorem acc_s4 {off : Fin 2 → ℕ} (n : ℕ) {inb} {o : ℕ} (h : RowAt off o) :
    Win (F := F) ((Memref.whole cc0_scratch4).access (Rect.unit (s := S128x1024) off ![n, 1024] inb)) o n
      (fun c o q f => held c cc0_scratch4 o n q f) (fun c o => free c cc0_scratch4 o n) := ⟨band_s4 h, fun _ _ _ => rfl, fun _ => rfl⟩
theorem win_s5 {off : Fin 2 → ℕ} (n : ℕ) {inb} {hs} {o : ℕ} (h : RowAt off o) :
    Win (F := F) ((Memref.whole cc0_scratch5).slice (Rect.unit (s := S128x1024) off ![n, 1024] inb) hs).view o n
      (fun c o q f => held c cc0_scratch5 o n q f) (fun c o => free c cc0_scratch5 o n) := ⟨band_s5 h, fun _ _ _ => rfl, fun _ => rfl⟩
theorem acc_s5 {off : Fin 2 → ℕ} (n : ℕ) {inb} {o : ℕ} (h : RowAt off o) :
    Win (F := F) ((Memref.whole cc0_scratch5).access (Rect.unit (s := S128x1024) off ![n, 1024] inb)) o n
      (fun c o q f => held c cc0_scratch5 o n q f) (fun c o => free c cc0_scratch5 o n) := ⟨band_s5 h, fun _ _ _ => rfl, fun _ => rfl⟩
theorem whole_s0 : Win (F := F) (Memref.whole cc0_scratch0).view 0 256
      (fun c o q f => held c cc0_scratch0 o 256 q f) (fun c o => free c cc0_scratch0 o 256) :=
  ⟨isBand_whole cc0_scratch0 (Nat.le_refl 2) rfl, fun _ _ _ => rfl, fun _ => rfl⟩
theorem whole_s1 : Win (F := F) (Memref.whole cc0_scratch1).view 0 256
      (fun c o q f => held c cc0_scratch1 o 256 q f) (fun c o => free c cc0_scratch1 o 256) :=
  ⟨isBand_whole cc0_scratch1 (Nat.le_refl 2) rfl, fun _ _ _ => rfl, fun _ => rfl⟩

/-! ## The steps -/

section Steps
variable {α : Type} {Q : α → sProp (MT nD τ sig Unit (Elt F) ℕ UU ℕ)} {s : Shape}

/-- Transfer `k` to its neighbour: the piece read and the piece written go into the two cells' payloads. -/
theorem send_step (c n : Dev nD) (k i : ℕ) (hn : n = peer k c)
    {sp sp' : Space} {src : Memref sig .tc sp s .f32} {dst : Memref sig .tc sp' s .f32}
    {hsc : dst.view.ref.isScScratch = false} {hsrc : src.view.WordExact} {hdst : dst.view.WordExact}
    {hsem : DmaTarget.Typed sp (.dma (dsem (16 + k))) (.remote (Dev.tc n : Thread nD τ) dst (.dma (dsem k)) hsc)}
    {kt : PUnit → Prog (TpuEff nD τ sig (Elt F) Λ₀ .tc) α}
    {o o₁ o' r : ℕ} {q : PosShare TreeShare} (f g : ℕ → ℕ → F .f32)
    {H H' : Dev nD → ℕ → PosShare TreeShare → (ℕ → ℕ → F .f32) → sProp (MT nD τ sig Unit (Elt F) ℕ UU ℕ)}
    {E E' : Dev nD → ℕ → sProp (MT nD τ sig Unit (Elt F) ℕ UU ℕ)}
    (ws : Win src.view o r H E) (wd : Win dst.view o₁ r H' E') (ho : o' = o₁)
    (hs : pay m c k = H c o q f) (hr : ready (F := F) (peer k c) k = E' (peer k c) o')
    (hd : pay m (peer k c) (16 + k) = H' (peer k c) o' fullShare g)
    (hw : ∀ i j, i < r → f (o + i) j = g (o' + i) j)
    (hN : dst.view.dmaCredit = amt k) (hN' : amt (16 + k) = amt k) (hk : k < 16)
    (hl : sends.drop i = k :: sends.drop (i + 1)) :
    env m K
      ⊢ iprop(sending m c k -∗ owing c i -∗ ((waiting c k ∗ owing c (i + 1)) -∗ Run c (kt ⟨⟩) Q)
          -∗ Run c (.op (.enqueueDma src (.remote (Dev.tc n : Thread nD τ) dst (.dma (dsem k)) hsc) (.dma (dsem (16 + k))) hsrc hdst hsem) kt) Q) := by
  subst hn
  subst ho
  have bs := ws.band
  have bd := wd.band
  rw [wd.full] at hd
  rw [wd.free] at hr
  rw [ws.full] at hs
  have h1 : (dsem k).val = k := Nat.mod_eq_of_lt (by omega)
  have h2 : (dsem (16 + k)).val = 16 + k := Nat.mod_eq_of_lt (by omega)
  unfold sending sendTok waiting owing
  rw [hl, hr, freeW, hs, bs.held_eq, ← bd.set_eq]
  iintro #He ⟨Hs, ⟨%fd, Hd⟩, ⟨Ht1, Ht2, Hat⟩⟩ ⟨%W, HO⟩ Hk
  iapply (Rounds.wp_send_pointsTo 𝒱₀ ER (rd m) (c : Thread nD τ) none (κ₁ := K (c, .dma (dsem k))) (κ₂ := K (peer k c, .dma (dsem (16 + k))))
    (r₁ := 0) (r₂ := 0) (d₁ := false) (d₂ := false) (fd := fd)
    (by rw [duties_dma]; exact Finset.mem_singleton_self _) (by rw [duties_dma]; exact Finset.mem_singleton_self _)
    () () (amt k) (show dst.view.amount (.dma (dsem (16 + k))) = _ from hN) (by show amt (dsem k).val = _; rw [h1]) (by show amt (dsem (16 + k)).val = _; rw [h2, hN']) (O₀ := dues c (k :: sends.drop (i + 1))) (dues c (sends.drop (i + 1))) (show dues c (sends.drop (i + 1)) + tallyAt _ _ (amt (16 + k)) = _ by rw [hN']) (W := W)
    (by show _ ⊢ pay m c (dsem k).val; rw [h1, hs, bs.held_eq])
    (by
      show _ ⊢ pay m (peer k c) (dsem (16 + k)).val
      rw [h2, hd, bd.held_eq]
      exact Entails.of_eq (bd.land (peer k c) ((bs.read f).trans (bs.tab_eq hw)) fd))) $$ [Hs Hd HO Ht1 Ht2]
  · isplitr; · iapply (env_inv m K); iexact He
    isplitr; · iapply (env_inv m K); iexact He
    isplitl [Hs]; · iexact Hs
    isplitl [Hd]; · iexact Hd
    isplitl [HO]; · iexact HO
    isplitl [Ht1]; · iexact Ht1
    isplitr; · iapply (env_reached m K); iexact He
    isplitl [Ht2]; · iexact Ht2
    iapply (env_reached m K); iexact He
  iintro ⟨Hc, HO⟩
  iapply Hk
  isplitl [Hc Hat]
  · isplitl [Hc] <;> iassumption
  iexists W; iexact HO

/-- A local copy on DMA semaphore `i`: both pieces go into its cell's payload. -/
theorem copy_step (c : Dev nD) (i : ℕ)
    {sp sp' : Space} {src : Memref sig .tc sp s .f32} {dst : Memref sig .tc sp' s .f32}
    {hsrc : src.view.WordExact} {hdst : dst.view.WordExact} {hsem : DmaTarget.Typed (nD := nD) (τ := τ) (p := .tc) sp (.dma (dsem i)) (.here dst)}
    {kt : PUnit → Prog (TpuEff nD τ sig (Elt F) Λ₀ .tc) α}
    {o o' r : ℕ} {q : PosShare TreeShare} (f g : ℕ → ℕ → F .f32)
    {H H' : Dev nD → ℕ → PosShare TreeShare → (ℕ → ℕ → F .f32) → sProp (MT nD τ sig Unit (Elt F) ℕ UU ℕ)}
    {E E' : Dev nD → ℕ → sProp (MT nD τ sig Unit (Elt F) ℕ UU ℕ)}
    (ws : Win src.view o r H E) (wd : Win dst.view o' r H' E')
    (hd : pay m c i = iprop(H' c o' fullShare g ∗ H c o q f))
    (hw : ∀ i j, i < r → f (o + i) j = g (o' + i) j)
    (hN : dst.view.dmaCredit = amt i) (hi : i < 36) :
    env m K
      ⊢ iprop(H c o q f -∗ E' c o' -∗ localTok c i -∗ (waiting c i -∗ Run c (kt ⟨⟩) Q)
          -∗ Run c (.op (.enqueueDma src (.here dst) (.dma (dsem i)) hsrc hdst hsem) kt) Q) := by
  have h1 : (dsem i).val = i := Nat.mod_eq_of_lt hi
  have bs := ws.band
  have bd := wd.band
  rw [wd.full, ws.full] at hd
  unfold localTok waiting
  rw [ws.full, wd.free, freeW, bs.held_eq, ← bd.set_eq]
  iintro #He Hs ⟨%fd, Hd⟩ ⟨Ht, Hat⟩ Hk
  iapply (Rounds.wp_copy_pointsTo 𝒱₀ ER (rd m) (c : Thread nD τ) none (κ := K (c, .dma (dsem i))) (r := 0) (d := false)
    (by rw [duties_dma]; exact Finset.mem_singleton_self _) () (amt i) (show dst.view.amount (.dma (dsem i)) = _ from hN) (by show amt (dsem i).val = _; rw [h1])
    (by
      show _ ⊢ pay m c (dsem i).val
      rw [h1, hd, bs.held_eq, bd.held_eq]
      exact sep_mono_left (Entails.of_eq (bd.land c ((bs.read f).trans (bs.tab_eq hw)) fd)))) $$ [Hs Hd Ht]
  · isplitr; · iapply (env_inv m K); iexact He
    isplitl [Hs]; · iexact Hs
    isplitl [Hd]; · iexact Hd
    isplitl [Ht]; · iexact Ht
    iapply (env_reached m K); iexact He
  iintro Hc
  iapply Hk
  isplitl [Hc] <;> iassumption

/-- The wait on DMA semaphore `i`: its payload comes back, and the semaphore is done. -/
theorem wait_step (c : Dev nD) (i n : ℕ)
    {sp sp' : Space} {e e' : EltTy} {s s' : Shape} {src : Memref sig .tc sp s e} {dst : Memref sig .tc sp' s' e'}
    {hsrc : src.view.WordExact} {hdst : dst.view.WordExact}
    {kt : PUnit → Prog (TpuEff nD τ sig (Elt F) Λ₀ .tc) α}
    (hN : dst.view.dmaCredit = amt i) (hi : i < 36) (hl : ∀ k ∈ sends.drop n, lvD (i % 36) < lvD ((16 + k) % 36)) :
    env m K
      ⊢ iprop(waiting c i -∗ owing c n -∗ ((pay m c i ∗ done c i ∗ owing c n) -∗ Run c (kt ⟨⟩) Q)
          -∗ Run c (.op (.waitDma2 (dsem i) src dst hsrc hdst) kt) Q) := by
  have h1 : (dsem i).val = i := Nat.mod_eq_of_lt hi
  unfold waiting owing done
  rw [← hN]
  iintro #He ⟨Hc, Hat⟩ ⟨%W, HO⟩ Hk
  iapply (Rounds.wp_wait_rest_token 𝒱₀ ER (rd m) (c : Thread nD τ) none (κ := K (c, .dma (dsem i)))
      (wpE_waitDma2_eq 𝒱₀ (c : Thread nD τ) none Set.univ) (Set.mem_univ _) () (O := dues c (sends.drop n)) (W := W) (R := 0) (m := 0) (T := ∅)
      (by rw [Nat.zero_add, expect_dma, h1, hN])) $$ [Hc HO Hat]
  · isplitr; · iapply (env_inv m K); iexact He
    isplitl [Hc]; · iexact Hc
    isplitl [HO]; · iexact HO
    isplitr; · iapply (mayWait c (.dma (dsem i)) (sends.drop n) hl); iapply (env_levels m K); iexact He
    iexact Hat
  iintro ⟨HO, Hat, -, Hpay⟩
  ihave Hp := (Entails.of_eq (rest_dma m c (dsem i))) $$ Hpay
  rw [h1]
  imod (Rounds.cell_close ER (rd m) (Set.mem_univ (K (c, .dma (dsem i)))) (fun h => h) (R := 0 + 1) (duties_later m (dcell c i))) $$ [Hat] with Hz
  · isplitr; · iapply (env_inv m K); iexact He
    iexact Hat
  iapply Hk
  isplitl [Hp]; · iexact Hp
  isplitl [Hz]; · iexact Hz
  iexists _; iexact HO

/-- A load of a band: the table comes back from its first row on. -/
theorem load_step (c : Dev nD) {cs : CoreSpace} {b : Memref sig .tc cs s .f32} {r : Rect s} {hl : b.view.LoadsAt r.toLoadRect}
    {kt : (r.shape.Idx → Elt F .f32) → Prog (TpuEff nD τ sig (Elt F) Λ₀ .tc) α}
    {o n : ℕ} {q : PosShare TreeShare} {H : Dev nD → ℕ → PosShare TreeShare → (ℕ → ℕ → F .f32) → sProp (MT nD τ sig Unit (Elt F) ℕ UU ℕ)}
    {E : Dev nD → ℕ → sProp (MT nD τ sig Unit (Elt F) ℕ UU ℕ)} (f : ℕ → ℕ → F .f32) (w : Win (b.access r) o n H E) :
    H c o q f ⊢ iprop((H c o q f -∗ Run c (kt (tab r.shape o f)) Q) -∗ Run c (.op (.load b r.toLoadRect hl) kt) Q) := by
  rw [w.full, w.band.held_eq, ← w.band.read f]
  exact wp_load_rect 𝒱₀ (c : Thread nD τ) none Set.univ (Finset.Subset.refl _)

/-- A store to a band of a table's values. -/
theorem store_step (c : Dev nD) {cs : CoreSpace} {b : Memref sig .tc cs s .f32} {r : Rect s} {w : r.shape.Idx → F .f32}
    {hx : (b.access r).Stores Finset.univ} {hm : (Finset.univ : Finset r.shape.Idx) = Finset.univ ∨ ∀ a, r.stride a = 1}
    {kt : PUnit → Prog (TpuEff nD τ sig (Elt F) Λ₀ .tc) α}
    {o n : ℕ} {H : Dev nD → ℕ → PosShare TreeShare → (ℕ → ℕ → F .f32) → sProp (MT nD τ sig Unit (Elt F) ℕ UU ℕ)}
    {E : Dev nD → ℕ → sProp (MT nD τ sig Unit (Elt F) ℕ UU ℕ)} (f g : ℕ → ℕ → F .f32) (ww : Win (b.access r) o n H E) (hw : w = tab r.shape o g) :
    H c o fullShare f ⊢ iprop((H c o fullShare g -∗ Run c (kt ⟨⟩) Q) -∗ Run c (.op (.store b r w Finset.univ hx hm) kt) Q) := by
  rw [ww.full, ww.full, ww.band.held_eq, ww.band.held_eq,
    show ((b.access r).loc (c : Thread nD τ) ↦[(b.access r).set]{fullShare} liftV (b.access r) g : sProp 𝕄) = _
    from (ww.band.land c hw (liftV _ f)).symm]
  exact wp_store 𝒱₀ (c : Thread nD τ) none Set.univ (Finset.Subset.refl _)

end Steps

/-- A part of the body, given the buffers and semaphore arrays the kernel is called with. -/
abbrev onWhole {β : Type _} (p : (arg0 : Memref sig .tc .hbm S1x1024x1024 .f32) → arg0.IsWhole → (arg1 : Memref sig .tc .hbm S1024x1024 .f32) → arg1.IsWhole
    → (arg2 : Memref sig .tc .vmem S256x1024 .f32) → arg2.IsWhole → (arg3 : Memref sig .tc .vmem S256x1024 .f32) → arg3.IsWhole
    → (arg4 : Memref sig .tc .vmem S256x1024 .f32) → arg4.IsWhole → (arg5 : Memref sig .tc .vmem S256x1024 .f32) → arg5.IsWhole
    → (arg6 : Memref sig .tc .vmem S128x1024 .f32) → arg6.IsWhole → (arg7 : Memref sig .tc .vmem S128x1024 .f32) → arg7.IsWhole
    → DmaSems sig S16 → DmaSems sig S16 → DmaSems sig S4 → β) : β :=
  p (Memref.whole main_arg0) (Memref.isWhole_whole _) (Memref.whole main_v1) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) cc0_scratch6 cc0_scratch7 cc0_scratch8

/-! ## What is sent is what is awaited -/

theorem total_A' (c : Dev nD) (k i j : ℕ) (h : k + i < 128) : total m (aq c + ae c + k + i) j = A2 m c (ae c + k + i) j := by
  rw [← total_A m c (ae c + k + i) j (by omega) (by omega)]; congr 1; omega
theorem total_B' (c : Dev nD) (k i j : ℕ) (h : k + i < 128) : total m (bq c + be c + k + i) j = B2 m c (be c + k + i) j := by
  rw [← total_B m c (be c + k + i) j (by omega) (by omega)]; congr 1; omega

end Cert.KernelIdeal.Butterfly

end
-- ==== Proof.Pieces.lean ====
/-
# Taking the buffers apart and putting them together

What a device starts with is cut into the pieces the transfers move; what it ends with is put together from them.
-/
module

public import proofs.«01_k».proof.Proof.Steps

@[expose] public section

noncomputable section

namespace Cert.KernelIdeal.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## Bands in two -/

/-- `x` and `y` are the two halves, in some order, of the `n + n` rows from `o`. -/
abbrev Two (o n x y : ℕ) : Prop := (x = o ∧ y = o + n) ∨ (y = o ∧ x = o + n)

section Two
variable (c : Dev nD) (b : Ref sig .tc) {o n N x y : ℕ} (hN : N = n + n) (h : Two o n x y) (q : PosShare TreeShare)
include hN h

theorem heldB_two (g) : heldB (F := F) c b o N q g = iprop(heldB c b x n q g ∗ heldB c b y n q g) := by
  subst hN
  rcases h with ⟨rfl, rfl⟩ | ⟨rfl, rfl⟩
  · exact heldB_add c b _ n n q g
  · rw [heldB_add c b _ n n q g]
    exact BI.Entails.antisymm BI.sep_comm BI.sep_comm

theorem held_two (f) : held (F := F) c b o N q f = iprop(held c b x n q f ∗ held c b y n q f) := heldB_two c b hN h q _

/-- The halves may have been filled from different tables. -/
theorem paste (f f') : iprop(held (F := F) c b x n q f ∗ held c b y n q f') ⊢ (∃ g, heldB c b o N q g : sProp 𝕄) := by
  have e1 := held_congr (F := F) c b x n q (f := f) (f' := fun r j => if x ≤ r ∧ r < x + n then f r j else f' r j)
    fun r j h1 h2 => (if_pos ⟨h1, h2⟩).symm
  have e2 := held_congr (F := F) c b y n q (f := f') (f' := fun r j => if x ≤ r ∧ r < x + n then f r j else f' r j)
    fun r j h1 h2 => (if_neg (by rcases h with ⟨rfl, rfl⟩ | ⟨rfl, rfl⟩ <;> omega)).symm
  rw [e1, e2, ← held_two c b hN h q]
  unfold held
  iintro H
  iexists _; iexact H

theorem free_two : free (F := F) c b o N ⊢ iprop(free c b x n ∗ free c b y n) := by
  iintro ⟨%g, H⟩
  ihave H := (Entails.of_eq (heldB_two (F := F) c b hN h fullShare g)) $$ H
  icases H with ⟨H1, H2⟩
  isplitl [H1] <;> iexists g <;> iassumption
end Two

/-! ## The halves, quarters and eighths -/

section Offsets
variable (c : Dev nD)
theorem two_aq : Two 0 256 (aq c) (ar c) := by revert c; decide
theorem two_bq : Two 512 256 (bq c) (br c) := by revert c; decide
theorem two_a : Two 0 128 (ae c) (ao c) := by revert c; decide
theorem two_b : Two 0 128 (be c) (bo c) := by revert c; decide
theorem two_at {x y : ℕ} (o : ℕ) {n : ℕ} (h : Two 0 n x y) : Two o n (o + x) (o + y) := by omega
end Offsets

/-- The eighths of the 1024 rows, as device `c` names them. -/
theorem eighths (c : Dev nD) (b : Ref sig .tc) (q : PosShare TreeShare) (g) : heldB (F := F) c b 0 1024 q g
    = iprop((heldB c b (aq c) 256 q g ∗ heldB c b (ar c + ae c) 128 q g ∗ heldB c b (ar c + ao c) 128 q g)
      ∗ heldB c b (bq c) 256 q g ∗ heldB c b (br c + be c) 128 q g ∗ heldB c b (br c + bo c) 128 q g) := by
  rw [heldB_two (F := F) c b (o := 0) (n := 512) (x := 0) (y := 512) (N := 1024) rfl (Or.inl ⟨rfl, rfl⟩) q g,
    heldB_two (F := F) c b (o := 0) (n := 256) (N := 512) rfl (two_aq c) q g, heldB_two (F := F) c b (o := 512) (n := 256) (N := 512) rfl (two_bq c) q g,
    heldB_two (F := F) c b (o := ar c) (n := 128) (N := 256) rfl (two_at _ (two_a c)) q g,
    heldB_two (F := F) c b (o := br c) (n := 128) (N := 256) rfl (two_at _ (two_b c)) q g]

/-! ## The start -/

/-- A device's buffers at the start: its argument, its result and the six scratch buffers. -/
def memIn (c : Dev nD) : sProp 𝕄 :=
  iprop(held c main_arg0 0 1024 fullShare (xAt m c) ∗ free c main_v1 0 1024 ∗ free c cc0_scratch0 0 256 ∗ free c cc0_scratch1 0 256
    ∗ free c cc0_scratch2 0 256 ∗ free c cc0_scratch3 0 256 ∗ free c cc0_scratch4 0 128 ∗ free c cc0_scratch5 0 128)

theorem out_split (c : Dev nD) : free (F := F) c main_v1 0 1024
    ⊢ iprop((free c main_v1 (aq c + ae c) 128 ∗ ready c 4 ∗ ready c 14 ∗ ready c 6 ∗ ready c 7)
      ∗ free c main_v1 (bq c + be c) 128 ∗ ready c 5 ∗ ready c 15 ∗ ready c 8 ∗ ready c 9) := by
  iintro ⟨%g, H⟩
  ihave H := (Entails.of_eq (eighths (F := F) c main_v1 fullShare g)) $$ H
  icases H with ⟨⟨Ha, H6, H7⟩, Hb, H8, H9⟩
  ihave Ha := (Entails.of_eq (heldB_two (F := F) c main_v1 (o := aq c) (n := 128) (N := 256) rfl (two_at _ (two_a c)) fullShare g)) $$ Ha
  icases Ha with ⟨Ha, Hc⟩
  ihave Hc := (Entails.of_eq (heldB_add (F := F) c main_v1 (aq c + ao c) 64 64 fullShare g)) $$ Hc
  icases Hc with ⟨H4, H14⟩
  ihave Hb := (Entails.of_eq (heldB_two (F := F) c main_v1 (o := bq c) (n := 128) (N := 256) rfl (two_at _ (two_b c)) fullShare g)) $$ Hb
  icases Hb with ⟨Hb, Hc⟩
  ihave Hc := (Entails.of_eq (heldB_add (F := F) c main_v1 (bq c + bo c) 64 64 fullShare g)) $$ Hc
  icases Hc with ⟨H5, H15⟩
  simp only [ready]
  isplitl [Ha H4 H14 H6 H7]
  · isplitl [Ha]; · iexists g; iexact Ha
    isplitl [H4]; · iexists g; iexact H4
    isplitl [H14]; · iexists g; iexact H14
    isplitl [H6] <;> iexists g <;> iassumption
  isplitl [Hb]; · iexists g; iexact Hb
  isplitl [H5]; · iexists g; iexact H5
  isplitl [H15]; · iexists g; iexact H15
  isplitl [H8] <;> iexists g <;> iassumption

theorem start_split (c : Dev nD) : memIn m c
    ⊢ iprop(held c main_arg0 (aq c) 256 fullShare (xAt m c) ∗ held c main_arg0 (bq c) 256 fullShare (xAt m c)
      ∗ pay m c 0 ∗ pay m c 1 ∗ pay m c 10 ∗ pay m c 11
      ∗ free c cc0_scratch0 0 256 ∗ free c cc0_scratch1 0 256 ∗ readyX c ∗ readyY c
      ∗ free c main_v1 (aq c + ae c) 128 ∗ free c main_v1 (bq c + be c) 128) := by
  unfold memIn readyX readyY
  simp only [pay, held]
  iintro ⟨Harg, Hout, H0, H1, H2, H3, H4, H5⟩
  ihave Harg := (Entails.of_eq (eighths (F := F) c main_arg0 fullShare (lift main_arg0 (xAt m c)))) $$ Harg
  icases Harg with ⟨⟨Ha, P10, P0⟩, Hb, P11, P1⟩
  ihave Hout := (out_split c) $$ Hout
  icases Hout with ⟨⟨Fa, R4, R14, R6, R7⟩, Fb, R5, R15, R8, R9⟩
  ihave H2 := (free_two (F := F) c cc0_scratch2 (n := 128) rfl (two_a c)) $$ H2
  icases H2 with ⟨R10, R0⟩
  ihave H3 := (free_two (F := F) c cc0_scratch3 (n := 128) rfl (two_b c)) $$ H3
  icases H3 with ⟨R11, R1⟩
  ihave H4 := (free_two (F := F) c cc0_scratch4 (n := 64) rfl (Or.inl ⟨rfl, rfl⟩)) $$ H4
  icases H4 with ⟨R2, R12⟩
  ihave H5 := (free_two (F := F) c cc0_scratch5 (n := 64) rfl (Or.inl ⟨rfl, rfl⟩)) $$ H5
  icases H5 with ⟨R3, R13⟩
  isplitl [Ha]; · iexact Ha
  isplitl [Hb]; · iexact Hb
  isplitl [P0]; · iexact P0
  isplitl [P1]; · iexact P1
  isplitl [P10]; · iexact P10
  isplitl [P11]; · iexact P11
  simp only [ready]
  iframe ∗

/-! ## The end -/

/-- A device's buffers at the end: the argument as it was, the result with every row the total. -/
def memOut (c : Dev nD) : sProp 𝕄 :=
  iprop(held c main_arg0 0 1024 fullShare (xAt m c) ∗ held c main_v1 0 1024 fullShare (total m) ∗ free c cc0_scratch0 0 256 ∗ free c cc0_scratch1 0 256
    ∗ free c cc0_scratch2 0 256 ∗ free c cc0_scratch3 0 256 ∗ free c cc0_scratch4 0 128 ∗ free c cc0_scratch5 0 128)

theorem arg_join (c : Dev nD) : iprop(held c main_arg0 (aq c) 256 fullShare (xAt m c) ∗ held c main_arg0 (bq c) 256 fullShare (xAt m c)
      ∗ pay m c 0 ∗ pay m c 1 ∗ pay m c 10 ∗ pay m c 11) ⊢ held c main_arg0 0 1024 fullShare (xAt m c) := by
  simp only [pay, held]
  iintro ⟨Ha, Hb, P0, P1, P10, P11⟩
  iapply (Entails.of_eq (eighths (F := F) c main_arg0 fullShare (lift main_arg0 (xAt m c))).symm)
  iframe ∗

theorem out_join (c : Dev nD) : iprop(held c main_v1 (aq c + ae c) 128 fullShare (total m) ∗ held c main_v1 (bq c + be c) 128 fullShare (total m)
      ∗ pay m c 7 ∗ pay m c 9 ∗ pay m c 22 ∗ pay m c 23 ∗ pay m c 24 ∗ pay m c 25) ⊢ held c main_v1 0 1024 fullShare (total m) := by
  simp only [pay, held]
  iintro ⟨Ha, Hb, P7, P9, P22, P23, P24, P25⟩
  iapply (Entails.of_eq (eighths (F := F) c main_v1 fullShare (lift main_v1 (total m))).symm)
  rw [heldB_two (F := F) c main_v1 (o := aq c) (n := 128) (N := 256) rfl (two_at _ (two_a c)) fullShare,
    heldB_two (F := F) c main_v1 (o := bq c) (n := 128) (N := 256) rfl (two_at _ (two_b c)) fullShare]
  iframe ∗

/-- A reduced quarter, given back eighth by eighth and the kept eighth share by share. -/
theorem quarter_join (c : Dev nD) (b : Ref sig .tc) {x y : ℕ} (h : Two 0 128 x y) (f f' : ℕ → ℕ → Elt F b.ty.elt) :
    iprop(held c b y 64 fullShare f ∗ held c b (y + 64) 64 fullShare f ∗ held c b x 64 fullShare.left f' ∗ held c b (x + 64) 64 fullShare.left f'
      ∗ held c b x 128 fullShare.right.left f' ∗ held c b x 128 fullShare.right.right f') ⊢ free (F := F) c b 0 256 := by
  iintro ⟨H1, H2, H3, H4, H5, H6⟩
  iapply (paste (F := F) c b (n := 128) rfl h fullShare f' f)
  isplitr [H1 H2]
  · iapply (Entails.of_eq (held_halves (F := F) c b x 128 fullShare f').symm)
    isplitl [H3 H4]
    · iapply (Entails.of_eq (held_add (F := F) c b x 64 64 fullShare.left f').symm)
      isplitl [H3] <;> iassumption
    iapply (Entails.of_eq (held_halves (F := F) c b x 128 fullShare.right f').symm)
    isplitl [H5] <;> iassumption
  iapply (Entails.of_eq (held_add (F := F) c b y 64 64 fullShare f).symm)
  isplitl [H1] <;> iassumption

end Cert.KernelIdeal.Butterfly

end
-- ==== Proof.PartsA.lean ====
/-
# The body's first half

The barrier and the first exchange, part by part: each part is run on the pieces of memory and the rights it uses.
-/
module

public import proofs.«01_k».proof.Proof.Steps

@[expose] public section

noncomputable section

namespace Cert.KernelIdeal.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

theorem part2 (c : Dev nD) (v19 v30 v31 v32 v33 v34 v36 w : BitVec 32) (Q : (Σ' (_ : BitVec 32) (_ : BitVec 32) (_ : BitVec 32), BitVec 32) → sProp 𝕄) :
    env m K ⊢ iprop((held c main_arg0 (aq c) 256 fullShare (xAt m c) ∗ free c cc0_scratch0 0 256 ∗ localTok c 32
        ∗ held c main_arg0 (bq c) 256 fullShare (xAt m c) ∗ free c cc0_scratch1 0 256 ∗ localTok c 33
        ∗ (∃ W, owes (c : Thread nD τ) (dues₀ c) W) ∗ dutyTok ER (bcell (xp c)) 0 false ∗ dutyTok ER (bcell (yp c)) 0 true
        ∗ readyX c ∗ readyY c ∗ cred (tallyAt (bcell c) () 2) ∗ atPos ER (bcell c) 0 ∅ 0) -∗
      ((waiting c 32 ∗ waiting c 33 ∗ readyX (xp c) ∗ readyY (yp c) ∗ semVal (bcell c) 0 ∗ owing c 0) -∗ ∀ v, Q v) -∗
      Run c (onWhole (k0_part2 (F := F)) c v19 v30 v31 v32 v33 v34 v36 w) Q) := by
  rw [k0_part2_eq_skeleton]; unfold onWhole k0_part2_skel
  simp only [semSignalWord, semWaitWord, Prog.lift, Prog.bind_op, Prog.bind_ret, Prog.pure_eq_ret, dev1_eq c, dev2_eq c]
  iintro #He ⟨Hxa, Ha, Ht32, Hxb, Hb, Ht33, ⟨%W, HO⟩, HtX, HtY, HrX, HrY, Hc, Hat⟩ HQ
  iapply (copy_step m K c 32 (xAt m c) (A0 m c) (win_arg 256 (off1 c)) whole_s0 rfl
    (fun i j _ => by simp only [A0, Nat.zero_add]) rfl (by decide)) $$ He Hxa Ha Ht32
  iintro Hw32
  iapply (copy_step m K c 33 (xAt m c) (B0 m c) (win_arg 256 (off2 c)) whole_s1 rfl
    (fun i j _ => by simp only [B0, Nat.zero_add]) rfl (by decide)) $$ He Hxb Hb Ht33
  iintro Hw33
  unfold dues₀
  iapply (Rounds.wp_signal 𝒱₀ ER (rd m) (c : Thread nD τ) none (dst := (xp c : Thread nD τ)) (κ := K (xp c, .reg barS)) (d := false)
    (by rw [duties_bar]; exact Finset.mem_univ _) (show 1 = _ by decide) () (dues₁ c) rfl) $$ [HO HtX HrX]
  · isplitr; · iapply (env_inv m K); iexact He
    isplitl [HO]; · iexact HO
    isplitl [HtX]; · iexact HtX
    isplitl [HrX]; · iapply (Entails.of_eq (payload_bar_false m c).symm); iexact HrX
    iapply (env_reached m K); iexact He
  iintro HO
  unfold dues₁
  iapply (Rounds.wp_signal 𝒱₀ ER (rd m) (c : Thread nD τ) none (dst := (yp c : Thread nD τ)) (κ := K (yp c, .reg barS)) (d := true)
    (by rw [duties_bar]; exact Finset.mem_univ _) (show 1 = _ by decide) () (dues c sends) rfl) $$ [HO HtY HrY]
  · isplitr; · iapply (env_inv m K); iexact He
    isplitl [HO]; · iexact HO
    isplitl [HtY]; · iexact HtY
    isplitl [HrY]; · iapply (Entails.of_eq (payload_bar_true m c).symm); iexact HrY
    iapply (env_reached m K); iexact He
  iintro HO
  iapply (Rounds.wp_wait_rest_token 𝒱₀ ER (rd m) (c : Thread nD τ) none (κ := K (c, .reg barS))
      (wpE_semWait_eq 𝒱₀ (c : Thread nD τ) none Set.univ) (Set.mem_univ _) () (O := dues c sends) (W := W) (R := 0) (m := 0) (T := ∅)
      (by rw [expect_bar]; decide)) $$ [Hc HO Hat]
  · isplitr; · iapply (env_inv m K); iexact He
    isplitl [Hc]; · iexact Hc
    isplitl [HO]; · iexact HO
    isplitr; · iapply (mayWait c (.reg barS) sends (by decide)); iapply (env_levels m K); iexact He
    iexact Hat
  iintro ⟨HO, Hat, -, Hpay⟩
  ihave Hp := (Entails.of_eq (rest_bar m c)) $$ Hpay
  icases Hp with ⟨HrX, HrY⟩
  imod (Rounds.cell_close ER (rd m) (Set.mem_univ (K (c, .reg barS))) (fun h => h) (R := 0 + 1) (duties_later m (bcell c))) $$ [Hat] with Hz
  · isplitr; · iapply (env_inv m K); iexact He
    iexact Hat
  iapply run_ret
  ihave Hq := HQ $$ [Hw32 Hw33 HrX HrY Hz HO]
  · iframe ∗
    unfold owing
    iexists _; iexact HO
  iapply Hq

theorem part3 (c : Dev nD) (v19 v30 v31 v32 v33 v34 v65 w : BitVec 32) (Q : PUnit → sProp 𝕄) :
    env m K ⊢ iprop((sending m c 0 ∗ owing c 0) -∗ ((waiting c 0 ∗ owing c 1) -∗ Q ⟨⟩) -∗
      Run c (onWhole (k0_part3 (F := F)) c v19 v30 v31 v32 v33 v34 v65 w) Q) := by
  rw [k0_part3_eq_skeleton]; unfold onWhole k0_part3_skel
  simp only [Prog.lift, Prog.bind_op, Prog.bind_ret, Prog.pure_eq_ret]
  iintro #He ⟨H0, HO⟩ HQ
  iapply (send_step m K c _ 0 0 (dev3_eq c) (xAt m c) (A0in m (yp c)) (win_arg 128 (off4 c)) (win_s2 128 (off3 c)) (ao_yp c) rfl rfl rfl
    (fun i j _ => by simp only [A0in, yp_yp, aq_yp, ao_yp, Nat.add_assoc]) rfl rfl (by decide) rfl) $$ He H0 HO
  iintro ⟨Hw0, HO⟩
  iapply run_ret; iapply HQ
  iframe ∗

theorem part4 (c : Dev nD) (v33 v34 : BitVec 32) (Q : PUnit → sProp 𝕄) :
    env m K ⊢ iprop((sending m c 1 ∗ sending m c 10 ∗ sending m c 11 ∗ waiting c 32 ∗ waiting c 33 ∗ owing c 1) -∗
      ((waiting c 1 ∗ waiting c 10 ∗ waiting c 11 ∗ (pay m c 32 ∗ done c 32) ∗ (pay m c 33 ∗ done c 33) ∗ owing c 4) -∗ Q ⟨⟩) -∗
      Run c (onWhole (k0_part4 (F := F)) c v33 v34) Q) := by
  rw [k0_part4_eq_skeleton]; unfold onWhole k0_part4_skel
  simp only [Prog.lift, Prog.bind_op, Prog.bind_ret, Prog.pure_eq_ret]
  iintro #He ⟨H1, H10, H11, Hw32, Hw33, HO⟩ HQ
  iapply (send_step m K c _ 1 1 (dev4_eq c) (xAt m c) (B0in m (xp c)) (win_arg 128 (off6 c)) (win_s3 128 (off5 c)) (bo_xp c) rfl rfl rfl
    (fun i j _ => by simp only [B0in, xp_xp, bq_xp, bo_xp, Nat.add_assoc]) rfl rfl (by decide) rfl) $$ He H1 HO
  iintro ⟨Hw1, HO⟩
  iapply (send_step m K c _ 10 2 (dev5_eq c) (xAt m c) (A0in m (yp c)) (win_arg 128 (off8 c)) (win_s2 128 (off7 c)) (ae_yp c) rfl rfl rfl
    (fun i j _ => by simp only [A0in, yp_yp, aq_yp, ae_yp, Nat.add_assoc]) rfl rfl (by decide) rfl) $$ He H10 HO
  iintro ⟨Hw10, HO⟩
  iapply (send_step m K c _ 11 3 (dev6_eq c) (xAt m c) (B0in m (xp c)) (win_arg 128 (off10 c)) (win_s3 128 (off9 c)) (be_xp c) rfl rfl rfl
    (fun i j _ => by simp only [B0in, xp_xp, bq_xp, be_xp, Nat.add_assoc]) rfl rfl (by decide) rfl) $$ He H11 HO
  iintro ⟨Hw11, HO⟩
  iapply (wait_step m K c 32 4 rfl (by decide) (by decide)) $$ He Hw32 HO
  iintro ⟨Hp32, Hd32, HO⟩
  iapply (wait_step m K c 33 4 rfl (by decide) (by decide)) $$ He Hw33 HO
  iintro ⟨Hp33, Hd33, HO⟩
  iapply run_ret; iapply HQ
  iframe ∗

theorem part5 (c : Dev nD) (v31 v33 v34 : BitVec 32) (Q : FVec F S128x1024 .f32 → sProp 𝕄) :
    env m K ⊢ iprop((waiting c 0 ∗ waiting c 16 ∗ waiting c 1 ∗ waiting c 17 ∗ held c cc0_scratch0 (ao c) 128 fullShare (A0 m c) ∗ owing c 4) -∗
      (((pay m c 0 ∗ done c 0) ∗ (pay m c 16 ∗ done c 16) ∗ (pay m c 1 ∗ done c 1) ∗ (pay m c 17 ∗ done c 17)
        ∗ held c cc0_scratch0 (ao c) 128 fullShare (A0 m c) ∗ owing c 4) -∗ Q (tab S128x1024 (ao c) (A1 m c))) -∗
      Run c (onWhole (k0_part5 (F := F)) c v31 v33 v34) Q) := by
  rw [k0_part5_eq_skeleton]; unfold onWhole k0_part5_skel
  simp only [Prog.lift, Prog.bind_op, Prog.bind_ret, Prog.pure_eq_ret]
  iintro #He ⟨Hw0, Hw16, Hw1, Hw17, Ha, HO⟩ HQ
  iapply (wait_step m K c 0 4 rfl (by decide) (by decide)) $$ He Hw0 HO
  iintro ⟨Hp0, Hd0, HO⟩
  iapply (wait_step m K c 16 4 rfl (by decide) (by decide)) $$ He Hw16 HO
  iintro ⟨Hp16, Hd16, HO⟩
  iapply (wait_step m K c 1 4 rfl (by decide) (by decide)) $$ He Hw1 HO
  iintro ⟨Hp1, Hd1, HO⟩
  iapply (wait_step m K c 17 4 rfl (by decide) (by decide)) $$ He Hw17 HO
  iintro ⟨Hp17, Hd17, HO⟩
  simp only [pay]
  iapply (load_step c (A0 m c) (acc_s0 128 (off11 c))) $$ Ha
  iintro Ha
  iapply (load_step c (A0in m c) (acc_s2 128 (off11 c))) $$ Hp16
  iintro Hp16
  iapply (run_eq (tab S128x1024 (ao c) (A1 m c)) rfl); iapply HQ
  isplitl [Hp0 Hd0]; · iframe ∗
  isplitl [Hp16 Hd16]; · isplitl [Hp16] <;> iassumption
  iframe ∗

theorem part6 (c : Dev nD) (v31 v32 v33 : BitVec 32) (Q : PUnit → sProp 𝕄) :
    env m K ⊢ iprop((held c cc0_scratch0 (ao c) 128 fullShare (A0 m c) ∗ held c cc0_scratch1 (bo c) 128 fullShare (B0 m c) ∗ pay m c 17
        ∗ ready (peer 2 c) 2 ∗ sendTok c 2 ∗ owing c 4) -∗
      ((waiting c 2 ∗ pay m c 12 ∗ pay m c 3 ∗ pay m c 13 ∗ pay m c 17 ∗ owing c 5) -∗ Q ⟨⟩) -∗
      Run c (onWhole (k0_part6 (F := F)) c v31 v32 v33 (tab S128x1024 (ao c) (A1 m c))) Q) := by
  rw [k0_part6_eq_skeleton]; unfold onWhole k0_part6_skel
  simp only [Prog.lift, Prog.bind_op, Prog.bind_ret, Prog.pure_eq_ret, pay]
  iintro #He ⟨Ha, Hb, Hp17, Hr2, Ht2, HO⟩ HQ
  iapply (load_step c (A0 m c) (acc_s0 128 (off11 c))) $$ Ha
  iintro Ha
  iapply (store_step c (A0 m c) (A1 m c) (acc_s0 128 (off11 c)) (by unfold k0_pay2; exact shapeCast_self _ _)) $$ Ha
  iintro Ha
  iapply (load_step c (B0 m c) (acc_s1 128 (off12 c))) $$ Hb
  iintro Hb
  iapply (load_step c (B0in m c) (acc_s3 128 (off12 c))) $$ Hp17
  iintro Hp17
  iapply (load_step c (B0 m c) (acc_s1 128 (off12 c))) $$ Hb
  iintro Hb
  iapply (store_step c (B0 m c) (B1 m c) (acc_s1 128 (off12 c)) (by unfold k0_pay3; exact shapeCast_self _ _)) $$ Hb
  iintro Hb
  ihave Ha := (Entails.of_eq (held_add c cc0_scratch0 (ao c) 64 64 fullShare (A1 m c))) $$ Ha
  icases Ha with ⟨Hp2, Hp12⟩
  ihave Hb := (Entails.of_eq (held_add c cc0_scratch1 (bo c) 64 64 fullShare (B1 m c))) $$ Hb
  icases Hb with ⟨Hp3, Hp13⟩
  iapply (send_step m K c _ 2 4 (dev7_eq c) (A1 m c) (A1in m (xp c)) (win_s0 64 (off13 c)) (win_s4 64 rowAt_zero) rfl rfl rfl rfl
    (fun i j _ => by simp only [A1in, xp_xp, ae_xp, Nat.zero_add]) rfl rfl (by decide) rfl) $$ He [Hp2 Hr2 Ht2] HO
  · unfold sending; simp only [pay]
    iframe ∗
  iintro ⟨Hw2, HO⟩
  iapply run_ret; iapply HQ
  isplitl [Hw2]; · iexact Hw2
  isplitl [Hp12]; · iexact Hp12
  isplitl [Hp3]; · iexact Hp3
  isplitl [Hp13]; · iexact Hp13
  isplitl [Hp17] <;> iassumption

theorem part7 (c : Dev nD) (v34 : BitVec 32) (Q : PUnit → sProp 𝕄) :
    env m K ⊢ iprop((sending m c 12 ∗ sending m c 3 ∗ sending m c 13 ∗ waiting c 10 ∗ owing c 5) -∗
      ((waiting c 12 ∗ waiting c 3 ∗ waiting c 13 ∗ (pay m c 10 ∗ done c 10) ∗ owing c 8) -∗ Q ⟨⟩) -∗
      Run c (onWhole (k0_part7 (F := F)) c v34) Q) := by
  rw [k0_part7_eq_skeleton]; unfold onWhole k0_part7_skel
  simp only [Prog.lift, Prog.bind_op, Prog.bind_ret, Prog.pure_eq_ret]
  iintro #He ⟨H12, H3, H13, Hw10, HO⟩ HQ
  iapply (send_step m K c _ 12 5 (dev8_eq c) (A1 m c) (A1in m (xp c)) (win_s0 64 (off14 c)) (win_s4 64 rowAt_64) rfl rfl rfl rfl
    (fun i j _ => by simp only [A1in, xp_xp, ae_xp, Nat.add_assoc]) rfl rfl (by decide) rfl) $$ He H12 HO
  iintro ⟨Hw12, HO⟩
  iapply (send_step m K c _ 3 6 (dev9_eq c) (B1 m c) (B1in m (yp c)) (win_s1 64 (off15 c)) (win_s5 64 rowAt_zero) rfl rfl rfl rfl
    (fun i j _ => by simp only [B1in, yp_yp, be_yp, Nat.zero_add]) rfl rfl (by decide) rfl) $$ He H3 HO
  iintro ⟨Hw3, HO⟩
  iapply (send_step m K c _ 13 7 (dev10_eq c) (B1 m c) (B1in m (yp c)) (win_s1 64 (off16 c)) (win_s5 64 rowAt_64) rfl rfl rfl rfl
    (fun i j _ => by simp only [B1in, yp_yp, be_yp, Nat.add_assoc]) rfl rfl (by decide) rfl) $$ He H13 HO
  iintro ⟨Hw13, HO⟩
  iapply (wait_step m K c 10 8 rfl (by decide) (by decide)) $$ He Hw10 HO
  iintro ⟨Hp10, Hd10, HO⟩
  iapply run_ret; iapply HQ
  iframe ∗

theorem part8 (c : Dev nD) (v19 v30 v33 : BitVec 32) (Q : FVec F S128x1024 .f32 → sProp 𝕄) :
    env m K ⊢ iprop((waiting c 26 ∗ waiting c 11 ∗ waiting c 27 ∗ held c cc0_scratch0 (ae c) 128 fullShare (A0 m c)
        ∗ held c cc0_scratch1 (be c) 128 fullShare (B0 m c) ∗ owing c 8) -∗
      (((pay m c 26 ∗ done c 26) ∗ (pay m c 11 ∗ done c 11) ∗ (pay m c 27 ∗ done c 27) ∗ held c cc0_scratch0 (ae c) 128 fullShare (A1 m c)
        ∗ held c cc0_scratch1 (be c) 128 fullShare (B0 m c) ∗ owing c 8) -∗ Q (tab S128x1024 (be c) (B1 m c))) -∗
      Run c (onWhole (k0_part8 (F := F)) c v19 v30 v33) Q) := by
  rw [k0_part8_eq_skeleton]; unfold onWhole k0_part8_skel
  simp only [Prog.lift, Prog.bind_op, Prog.bind_ret, Prog.pure_eq_ret]
  iintro #He ⟨Hw26, Hw11, Hw27, Ha, Hb, HO⟩ HQ
  iapply (wait_step m K c 26 8 rfl (by decide) (by decide)) $$ He Hw26 HO
  iintro ⟨Hp26, Hd26, HO⟩
  iapply (wait_step m K c 11 8 rfl (by decide) (by decide)) $$ He Hw11 HO
  iintro ⟨Hp11, Hd11, HO⟩
  iapply (wait_step m K c 27 8 rfl (by decide) (by decide)) $$ He Hw27 HO
  iintro ⟨Hp27, Hd27, HO⟩
  simp only [pay]
  iapply (load_step c (A0 m c) (acc_s0 128 (off17 c))) $$ Ha
  iintro Ha
  iapply (load_step c (A0in m c) (acc_s2 128 (off17 c))) $$ Hp26
  iintro Hp26
  iapply (load_step c (A0 m c) (acc_s0 128 (off17 c))) $$ Ha
  iintro Ha
  iapply (store_step c (A0 m c) (A1 m c) (acc_s0 128 (off17 c)) (by unfold k0_pay4; exact shapeCast_self _ _)) $$ Ha
  iintro Ha
  iapply (load_step c (B0 m c) (acc_s1 128 (off18 c))) $$ Hb
  iintro Hb
  iapply (load_step c (B0in m c) (acc_s3 128 (off18 c))) $$ Hp27
  iintro Hp27
  iapply (run_eq (tab S128x1024 (be c) (B1 m c)) rfl); iapply HQ
  isplitl [Hp26 Hd26]; · isplitl [Hp26] <;> iassumption
  isplitl [Hp11 Hd11]; · iframe ∗
  isplitl [Hp27 Hd27]; · isplitl [Hp27] <;> iassumption
  iframe ∗

end Cert.KernelIdeal.Butterfly

end
-- ==== Proof.PartsB.lean ====
/-
# The body's second half

The second exchange and the gathering, part by part.
-/
module

public import proofs.«01_k».proof.Proof.Steps

@[expose] public section

noncomputable section

namespace Cert.KernelIdeal.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-- Two bands added lane by lane are a band of the sums. -/
theorem tab_addf {f g h : ℕ → ℕ → F .f32} {o o' : ℕ} {s : Shape} (e : ∀ i j, FloatOps.addf (f (o + i) j) (g (o' + i) j) = h (o + i) j) :
    (addf (tab s o f) (tab s o' g) : FVec F s .f32) = tab s o h := funext fun x => e _ _
theorem A2_low (c : Dev nD) (i j : ℕ) : FloatOps.addf (A1 m c (ae c + i) j) (A1in m c (0 + i) j) = A2 m c (ae c + i) j := by
  rw [Nat.zero_add]; rfl
theorem A2_high (c : Dev nD) (i j : ℕ) : FloatOps.addf (A1 m c (ae c + 64 + i) j) (A1in m c (64 + i) j) = A2 m c (ae c + 64 + i) j := by
  unfold A2 A1in; rw [Nat.add_assoc]
theorem B2_low (c : Dev nD) (i j : ℕ) : FloatOps.addf (B1 m c (be c + i) j) (B1in m c (0 + i) j) = B2 m c (be c + i) j := by
  rw [Nat.zero_add]; rfl
theorem B2_high (c : Dev nD) (i j : ℕ) : FloatOps.addf (B1 m c (be c + 64 + i) j) (B1in m c (64 + i) j) = B2 m c (be c + 64 + i) j := by
  unfold B2 B1in; rw [Nat.add_assoc]

theorem part9 (c : Dev nD) (v19 v33 v34 : BitVec 32) (Q : (Σ' (_ : BitVec 32), Vec F S64x1024 .f32) → sProp 𝕄) :
    env m K ⊢ iprop((waiting c 2 ∗ waiting c 18 ∗ waiting c 3 ∗ waiting c 19 ∗ held c cc0_scratch0 (ae c) 64 fullShare (A1 m c)
        ∗ held c cc0_scratch1 (be c) 128 fullShare (B0 m c) ∗ owing c 8) -∗
      (((pay m c 2 ∗ done c 2) ∗ (pay m c 18 ∗ done c 18) ∗ (pay m c 3 ∗ done c 3) ∗ (pay m c 19 ∗ done c 19)
        ∗ held c cc0_scratch0 (ae c) 64 fullShare (A1 m c) ∗ held c cc0_scratch1 (be c) 128 fullShare (B1 m c) ∗ owing c 8)
        -∗ ∀ v, Q ⟨v, tab S64x1024 (ae c) (A1 m c)⟩) -∗
      Run c (onWhole (k0_part9 (F := F)) c v19 v33 v34 (tab S128x1024 (be c) (B1 m c))) Q) := by
  rw [k0_part9_eq_skeleton]; unfold onWhole k0_part9_skel
  simp only [Prog.lift, Prog.bind_op, Prog.bind_ret, Prog.pure_eq_ret]
  iintro #He ⟨Hw2, Hw18, Hw3, Hw19, Ha, Hb, HO⟩ HQ
  iapply (load_step c (B0 m c) (acc_s1 128 (off18 c))) $$ Hb
  iintro Hb
  iapply (store_step c (B0 m c) (B1 m c) (acc_s1 128 (off18 c)) (by unfold k0_pay6; exact (shapeCast_self _ _))) $$ Hb
  iintro Hb
  iapply (wait_step m K c 2 8 rfl (by decide) (by decide)) $$ He Hw2 HO
  iintro ⟨Hp2, Hd2, HO⟩
  iapply (wait_step m K c 18 8 rfl (by decide) (by decide)) $$ He Hw18 HO
  iintro ⟨Hp18, Hd18, HO⟩
  iapply (wait_step m K c 3 8 rfl (by decide) (by decide)) $$ He Hw3 HO
  iintro ⟨Hp3, Hd3, HO⟩
  iapply (wait_step m K c 19 8 rfl (by decide) (by decide)) $$ He Hw19 HO
  iintro ⟨Hp19, Hd19, HO⟩
  iapply (load_step c (A1 m c) (acc_s0 64 (off19 c))) $$ Ha
  iintro Ha
  ihave Hq := HQ $$ [Hp2 Hd2 Hp18 Hd18 Hp3 Hd3 Hp19 Hd19 Ha Hb HO]
  · iframe ∗
  iapply (run_eq (α := Σ' (_ : BitVec 32), Vec F S64x1024 .f32) ⟨Scalar.muli v19 128#32, tab S64x1024 (ae c) (A1 m c)⟩ rfl); iapply Hq

theorem part10 (c : Dev nD) (v19 v30 v33 v34 v277 : BitVec 32) (Q : PUnit → sProp 𝕄) :
    env m K ⊢ iprop((held c cc0_scratch0 (ae c) 64 fullShare (A1 m c) ∗ held c cc0_scratch1 (be c) 64 fullShare (B1 m c) ∗ pay m c 18 ∗ pay m c 19
        ∗ (ready (peer 4 c) 4 ∗ sendTok c 4) ∗ (ready (peer 5 c) 5 ∗ sendTok c 5) ∗ owing c 8) -∗
      ((waiting c 4 ∗ waiting c 5 ∗ held c cc0_scratch0 (ae c) 64 fullShare.right (A2 m c) ∗ held c cc0_scratch1 (be c) 64 fullShare.right (B2 m c)
        ∗ pay m c 18 ∗ pay m c 19 ∗ owing c 10) -∗ Q ⟨⟩) -∗
      Run c (onWhole (k0_part10 (F := F)) c v19 v30 v33 v34 v277 (tab S64x1024 (ae c) (A1 m c))) Q) := by
  rw [k0_part10_eq_skeleton]; unfold onWhole k0_part10_skel
  simp only [Prog.lift, Prog.bind_op, Prog.bind_ret, Prog.pure_eq_ret]
  simp only [pay]
  iintro #He ⟨Ha, Hb, Hp18, Hp19, ⟨Hr4, Ht4⟩, ⟨Hr5, Ht5⟩, HO⟩ HQ
  iapply (load_step c (A1in m c) (acc_s4 64 rowAt_zero)) $$ Hp18
  iintro Hp18
  iapply (load_step c (A1 m c) (acc_s0 64 (off19 c))) $$ Ha
  iintro Ha
  iapply (store_step c (A1 m c) (A2 m c) (acc_s0 64 (off19 c)) (by unfold k0_pay7; exact (shapeCast_self _ _).trans (tab_addf (A2_low m c)))) $$ Ha
  iintro Ha
  iapply (load_step c (B1 m c) (acc_s1 64 (off20 c))) $$ Hb
  iintro Hb
  iapply (load_step c (B1in m c) (acc_s5 64 rowAt_zero)) $$ Hp19
  iintro Hp19
  iapply (load_step c (B1 m c) (acc_s1 64 (off20 c))) $$ Hb
  iintro Hb
  iapply (store_step c (B1 m c) (B2 m c) (acc_s1 64 (off20 c)) (by unfold k0_pay8; exact (shapeCast_self _ _).trans (tab_addf (B2_low m c)))) $$ Hb
  iintro Hb
  ihave Ha := (Entails.of_eq (held_halves c cc0_scratch0 (ae c) 64 fullShare (A2 m c))) $$ Ha
  icases Ha with ⟨Hal, Har⟩
  ihave Hb := (Entails.of_eq (held_halves c cc0_scratch1 (be c) 64 fullShare (B2 m c))) $$ Hb
  icases Hb with ⟨Hbl, Hbr⟩
  iapply (send_step m K c _ 4 8 (dev11_eq c) (A2 m c) (total m) (win_s0 64 (off22 c)) (win_out 64 (off21 c)) (by simp only [peer, aq_xp, ao_xp]) rfl rfl rfl
    (fun i j h => by simp only [peer, aq_xp, ao_xp]; exact (total_A' m c 0 i j (by omega)).symm) rfl rfl (by decide) rfl) $$ He [Hal Hr4 Ht4] HO
  · unfold sending; simp only [pay]
    iframe ∗
  iintro ⟨Hw4, HO⟩
  iapply (send_step m K c _ 5 9 (dev12_eq c) (B2 m c) (total m) (win_s1 64 (off24 c)) (win_out 64 (off23 c)) (by simp only [peer, bq_yp, bo_yp]) rfl rfl rfl
    (fun i j h => by simp only [peer, bq_yp, bo_yp]; exact (total_B' m c 0 i j (by omega)).symm) rfl rfl (by decide) rfl) $$ He [Hbl Hr5 Ht5] HO
  · unfold sending; simp only [pay]
    iframe ∗
  iintro ⟨Hw5, HO⟩
  iapply run_ret; iapply HQ
  iframe ∗

theorem part11 (c : Dev nD) (v19 v33 v34 : BitVec 32) (Q : (Σ' (_ : BitVec 32), FVec F S64x1024 .f32) → sProp 𝕄) :
    env m K ⊢ iprop((waiting c 12 ∗ waiting c 28 ∗ waiting c 13 ∗ waiting c 29 ∗ held c cc0_scratch0 (ae c + 64) 64 fullShare (A1 m c) ∗ owing c 10) -∗
      (((pay m c 12 ∗ done c 12) ∗ (pay m c 28 ∗ done c 28) ∗ (pay m c 13 ∗ done c 13) ∗ (pay m c 29 ∗ done c 29)
        ∗ held c cc0_scratch0 (ae c + 64) 64 fullShare (A1 m c) ∗ owing c 10)
        -∗ ∀ v, Q ⟨v, tab S64x1024 (ae c + 64) (A2 m c)⟩) -∗
      Run c (onWhole (k0_part11 (F := F)) c v19 v33 v34) Q) := by
  rw [k0_part11_eq_skeleton]; unfold onWhole k0_part11_skel
  simp only [Prog.lift, Prog.bind_op, Prog.bind_ret, Prog.pure_eq_ret]
  iintro #He ⟨Hw12, Hw28, Hw13, Hw29, Ha, HO⟩ HQ
  iapply (wait_step m K c 12 10 rfl (by decide) (by decide)) $$ He Hw12 HO
  iintro ⟨Hp12, Hd12, HO⟩
  iapply (wait_step m K c 28 10 rfl (by decide) (by decide)) $$ He Hw28 HO
  iintro ⟨Hp28, Hd28, HO⟩
  iapply (wait_step m K c 13 10 rfl (by decide) (by decide)) $$ He Hw13 HO
  iintro ⟨Hp13, Hd13, HO⟩
  iapply (wait_step m K c 29 10 rfl (by decide) (by decide)) $$ He Hw29 HO
  iintro ⟨Hp29, Hd29, HO⟩
  simp only [pay]
  iapply (load_step c (A1 m c) (acc_s0 64 (off25 c))) $$ Ha
  iintro Ha
  iapply (load_step c (A1in m c) (acc_s4 64 rowAt_64)) $$ Hp28
  iintro Hp28
  ihave Hq := HQ $$ [Hp12 Hd12 Hp28 Hd28 Hp13 Hd13 Hp29 Hd29 Ha HO]
  · iframe ∗
  iapply (run_eq (α := Σ' (_ : BitVec 32), FVec F S64x1024 .f32) ⟨Scalar.addi (Scalar.muli v19 128#32) 64#32, tab S64x1024 (ae c + 64) (A2 m c)⟩ (congrArg (PSigma.mk _) (tab_addf (A2_high m c)))); iapply Hq

theorem part12 (c : Dev nD) (v19 v30 v33 v34 v53 v60 v334 : BitVec 32) (Q : PUnit → sProp 𝕄) :
    env m K ⊢ iprop((held c cc0_scratch0 (ae c + 64) 64 fullShare (A1 m c) ∗ held c cc0_scratch1 (be c + 64) 64 fullShare (B1 m c) ∗ pay m c 29
        ∗ (ready (peer 14 c) 14 ∗ sendTok c 14) ∗ owing c 10) -∗
      ((waiting c 14 ∗ held c cc0_scratch0 (ae c + 64) 64 fullShare.right (A2 m c) ∗ pay m c 15 ∗ held c cc0_scratch1 (be c + 64) 64 fullShare.right (B2 m c)
        ∗ pay m c 29 ∗ owing c 11) -∗ Q ⟨⟩) -∗
      Run c (onWhole (k0_part12 (F := F)) c v19 v30 v33 v34 v53 v60 v334 (tab S64x1024 (ae c + 64) (A2 m c))) Q) := by
  rw [k0_part12_eq_skeleton]; unfold onWhole k0_part12_skel
  simp only [Prog.lift, Prog.bind_op, Prog.bind_ret, Prog.pure_eq_ret]
  simp only [pay]
  iintro #He ⟨Ha, Hb, Hp29, ⟨Hr14, Ht14⟩, HO⟩ HQ
  iapply (load_step c (A1 m c) (acc_s0 64 (off25 c))) $$ Ha
  iintro Ha
  iapply (store_step c (A1 m c) (A2 m c) (acc_s0 64 (off25 c)) (by unfold k0_pay10; exact (shapeCast_self _ _))) $$ Ha
  iintro Ha
  iapply (load_step c (B1 m c) (acc_s1 64 (off26 c))) $$ Hb
  iintro Hb
  iapply (load_step c (B1in m c) (acc_s5 64 rowAt_64)) $$ Hp29
  iintro Hp29
  iapply (load_step c (B1 m c) (acc_s1 64 (off26 c))) $$ Hb
  iintro Hb
  iapply (store_step c (B1 m c) (B2 m c) (acc_s1 64 (off26 c)) (by unfold k0_pay11; exact (shapeCast_self _ _).trans (tab_addf (B2_high m c)))) $$ Hb
  iintro Hb
  ihave Ha := (Entails.of_eq (held_halves c cc0_scratch0 (ae c + 64) 64 fullShare (A2 m c))) $$ Ha
  icases Ha with ⟨Hal, Har⟩
  ihave Hb := (Entails.of_eq (held_halves c cc0_scratch1 (be c + 64) 64 fullShare (B2 m c))) $$ Hb
  icases Hb with ⟨Hbl, Hbr⟩
  iapply (send_step m K c _ 14 10 (dev13_eq c) (A2 m c) (total m) (win_s0 64 (off28 c)) (win_out 64 (off27 c)) (by simp only [peer, aq_xp, ao_xp]) rfl rfl rfl
    (fun i j h => by simp only [peer, aq_xp, ao_xp]; exact (total_A' m c 64 i j (by omega)).symm) rfl rfl (by decide) rfl) $$ He [Hal Hr14 Ht14] HO
  · unfold sending; simp only [pay]
    iframe ∗
  iintro ⟨Hw14, HO⟩
  iapply run_ret; iapply HQ
  iframe ∗

theorem part13 (c : Dev nD) (v19 v30 v33 v34 : BitVec 32) (Q : PUnit → sProp 𝕄) :
    env m K ⊢ iprop((sending m c 15
        ∗ (held c cc0_scratch0 (ae c) 64 fullShare.right (A2 m c) ∗ held c cc0_scratch0 (ae c + 64) 64 fullShare.right (A2 m c))
        ∗ (held c cc0_scratch1 (be c) 64 fullShare.right (B2 m c) ∗ held c cc0_scratch1 (be c + 64) 64 fullShare.right (B2 m c))
        ∗ (ready (peer 6 c) 6 ∗ sendTok c 6) ∗ (ready (peer 8 c) 8 ∗ sendTok c 8)
        ∗ (free c main_v1 (aq c + ae c) 128 ∗ localTok c 34) ∗ (free c main_v1 (bq c + be c) 128 ∗ localTok c 35) ∗ owing c 11) -∗
      ((waiting c 15 ∗ waiting c 6 ∗ waiting c 8 ∗ waiting c 34 ∗ waiting c 35 ∗ owing c 14) -∗ Q ⟨⟩) -∗
      Run c (onWhole (k0_part13 (F := F)) c v19 v30 v33 v34) Q) := by
  rw [k0_part13_eq_skeleton]; unfold onWhole k0_part13_skel
  simp only [Prog.lift, Prog.bind_op, Prog.bind_ret, Prog.pure_eq_ret]
  iintro #He ⟨H15, Ha, Hb, ⟨Hr6, Ht6⟩, ⟨Hr8, Ht8⟩, ⟨Hf34, Ht34⟩, ⟨Hf35, Ht35⟩, HO⟩ HQ
  ihave Ha := (Entails.of_eq (held_add c cc0_scratch0 (ae c) 64 64 fullShare.right (A2 m c)).symm) $$ Ha
  ihave Ha := (Entails.of_eq (held_halves c cc0_scratch0 (ae c) 128 fullShare.right (A2 m c))) $$ Ha
  icases Ha with ⟨Hal, Har⟩
  ihave Hb := (Entails.of_eq (held_add c cc0_scratch1 (be c) 64 64 fullShare.right (B2 m c)).symm) $$ Hb
  ihave Hb := (Entails.of_eq (held_halves c cc0_scratch1 (be c) 128 fullShare.right (B2 m c))) $$ Hb
  icases Hb with ⟨Hbl, Hbr⟩
  iapply (send_step m K c _ 15 11 (dev14_eq c) (B2 m c) (total m) (win_s1 64 (off30 c)) (win_out 64 (off29 c)) (by simp only [peer, bq_yp, bo_yp]) rfl rfl rfl
    (fun i j h => by simp only [peer, bq_yp, bo_yp]; exact (total_B' m c 64 i j (by omega)).symm) rfl rfl (by decide) rfl) $$ He H15 HO
  iintro ⟨Hw15, HO⟩
  iapply (send_step m K c _ 6 12 (dev15_eq c) (A2 m c) (total m) (win_s0 128 (off7 c)) (win_out 128 (off31 c)) (by simp only [peer, ar_yp, ae_yp]) rfl rfl rfl
    (fun i j h => by simp only [peer, ar_yp, ae_yp]; exact (total_A' m c 0 i j (by omega)).symm) rfl rfl (by decide) rfl) $$ He [Hal Hr6 Ht6] HO
  · unfold sending; simp only [pay]
    iframe ∗
  iintro ⟨Hw6, HO⟩
  iapply (send_step m K c _ 8 13 (dev16_eq c) (B2 m c) (total m) (win_s1 128 (off9 c)) (win_out 128 (off32 c)) (by simp only [peer, br_xp, be_xp]) rfl rfl rfl
    (fun i j h => by simp only [peer, br_xp, be_xp]; exact (total_B' m c 0 i j (by omega)).symm) rfl rfl (by decide) rfl) $$ He [Hbl Hr8 Ht8] HO
  · unfold sending; simp only [pay]
    iframe ∗
  iintro ⟨Hw8, HO⟩
  iapply (copy_step m K c 34 (A2 m c) (total m) (win_s0 128 (off7 c)) (win_out 128 (off31 c)) rfl
    (fun i j h => (total_A' m c 0 i j (by omega)).symm) rfl (by decide)) $$ He Har Hf34 Ht34
  iintro Hw34
  iapply (copy_step m K c 35 (B2 m c) (total m) (win_s1 128 (off9 c)) (win_out 128 (off32 c)) rfl
    (fun i j h => (total_B' m c 0 i j (by omega)).symm) rfl (by decide)) $$ He Hbr Hf35 Ht35
  iintro Hw35
  iapply run_ret; iapply HQ
  iframe ∗

theorem part14 (c : Dev nD) (v33 v34 : BitVec 32) (Q : (Σ' (_ : BitVec 32), BitVec 32) → sProp 𝕄) :
    env m K ⊢ iprop((waiting c 4 ∗ waiting c 20 ∗ waiting c 5 ∗ waiting c 21 ∗ waiting c 14 ∗ owing c 14) -∗
      (((pay m c 4 ∗ done c 4) ∗ (pay m c 20 ∗ done c 20) ∗ (pay m c 5 ∗ done c 5) ∗ (pay m c 21 ∗ done c 21) ∗ (pay m c 14 ∗ done c 14) ∗ owing c 14)
        -∗ ∀ v, Q v) -∗
      Run c (onWhole (k0_part14 (F := F)) c v33 v34) Q) := by
  rw [k0_part14_eq_skeleton]; unfold onWhole k0_part14_skel
  simp only [Prog.lift, Prog.bind_op, Prog.bind_ret, Prog.pure_eq_ret]
  iintro #He ⟨Hw4, Hw20, Hw5, Hw21, Hw14, HO⟩ HQ
  iapply (wait_step m K c 4 14 rfl (by decide) (by decide)) $$ He Hw4 HO
  iintro ⟨Hp4, Hd4, HO⟩
  iapply (wait_step m K c 20 14 rfl (by decide) (by decide)) $$ He Hw20 HO
  iintro ⟨Hp20, Hd20, HO⟩
  iapply (wait_step m K c 5 14 rfl (by decide) (by decide)) $$ He Hw5 HO
  iintro ⟨Hp5, Hd5, HO⟩
  iapply (wait_step m K c 21 14 rfl (by decide) (by decide)) $$ He Hw21 HO
  iintro ⟨Hp21, Hd21, HO⟩
  iapply (wait_step m K c 14 14 rfl (by decide) (by decide)) $$ He Hw14 HO
  iintro ⟨Hp14, Hd14, HO⟩
  ihave Hq := HQ $$ [Hp4 Hd4 Hp20 Hd20 Hp5 Hd5 Hp21 Hd21 Hp14 Hd14 HO]
  · iframe ∗
  iapply run_ret; iapply Hq

theorem part15 (c : Dev nD) (v33 v34 v427 w : BitVec 32) (Q : PUnit → sProp 𝕄) :
    env m K ⊢ iprop((waiting c 30 ∗ waiting c 15 ∗ waiting c 31 ∗ pay m c 20 ∗ (ready (peer 7 c) 7 ∗ sendTok c 7) ∗ owing c 14) -∗
      ((done c 30 ∗ (pay m c 15 ∗ done c 15) ∗ (pay m c 31 ∗ done c 31) ∗ waiting c 7 ∗ owing c 15) -∗ Q ⟨⟩) -∗
      Run c (onWhole (k0_part15 (F := F)) c v33 v34 v427 w) Q) := by
  rw [k0_part15_eq_skeleton]; unfold onWhole k0_part15_skel
  simp only [Prog.lift, Prog.bind_op, Prog.bind_ret, Prog.pure_eq_ret]
  iintro #He ⟨Hw30, Hw15, Hw31, Hp20, ⟨Hr7, Ht7⟩, HO⟩ HQ
  iapply (wait_step m K c 30 14 rfl (by decide) (by decide)) $$ He Hw30 HO
  iintro ⟨Hp30, Hd30, HO⟩
  iapply (wait_step m K c 15 14 rfl (by decide) (by decide)) $$ He Hw15 HO
  iintro ⟨Hp15, Hd15, HO⟩
  iapply (wait_step m K c 31 14 rfl (by decide) (by decide)) $$ He Hw31 HO
  iintro ⟨Hp31, Hd31, HO⟩
  simp only [pay]
  ihave Hp7 := (Entails.of_eq (held_add c main_v1 (aq c + ao c) 64 64 fullShare (total m)).symm) $$ [Hp20 Hp30]
  · isplitl [Hp20] <;> iassumption
  iapply (send_step m K c _ 7 14 (dev17_eq c) (total m) (total m) (win_out 128 (off33 c)) (win_out 128 (off33 c)) (by simp only [peer, ar_yp, ao_yp]) rfl rfl rfl
    (fun i j h => by simp only [peer, ar_yp, ao_yp]) rfl rfl (by decide) rfl) $$ He [Hp7 Hr7 Ht7] HO
  · unfold sending; simp only [pay]
    iframe ∗
  iintro ⟨Hw7, HO⟩
  iapply run_ret; iapply HQ
  iframe ∗

theorem part16 (c : Dev nD) (v33 v34 : BitVec 32) (Q : PUnit → sProp 𝕄) :
    env m K ⊢ iprop((pay m c 21 ∗ pay m c 31 ∗ (ready (peer 9 c) 9 ∗ sendTok c 9) ∗ waiting c 34 ∗ waiting c 35 ∗ waiting c 6 ∗ waiting c 22 ∗ waiting c 8 ∗ owing c 15) -∗
      ((waiting c 9 ∗ (pay m c 34 ∗ done c 34) ∗ (pay m c 35 ∗ done c 35) ∗ (pay m c 6 ∗ done c 6) ∗ (pay m c 22 ∗ done c 22) ∗ (pay m c 8 ∗ done c 8) ∗ owing c 16)
        -∗ Q ⟨⟩) -∗
      Run c (onWhole (k0_part16 (F := F)) c v33 v34) Q) := by
  rw [k0_part16_eq_skeleton]; unfold onWhole k0_part16_skel
  simp only [Prog.lift, Prog.bind_op, Prog.bind_ret, Prog.pure_eq_ret]
  simp only [pay]
  iintro #He ⟨Hp21, Hp31, ⟨Hr9, Ht9⟩, Hw34, Hw35, Hw6, Hw22, Hw8, HO⟩ HQ
  ihave Hp9 := (Entails.of_eq (held_add c main_v1 (bq c + bo c) 64 64 fullShare (total m)).symm) $$ [Hp21 Hp31]
  · isplitl [Hp21] <;> iassumption
  iapply (send_step m K c _ 9 15 (dev18_eq c) (total m) (total m) (win_out 128 (off34 c)) (win_out 128 (off34 c)) (by simp only [peer, br_xp, bo_xp]) rfl rfl rfl
    (fun i j h => by simp only [peer, br_xp, bo_xp]) rfl rfl (by decide) rfl) $$ He [Hp9 Hr9 Ht9] HO
  · unfold sending; simp only [pay]
    iframe ∗
  iintro ⟨Hw9, HO⟩
  iapply (wait_step m K c 34 16 rfl (by decide) (by decide)) $$ He Hw34 HO
  iintro ⟨Hp34, Hd34, HO⟩
  iapply (wait_step m K c 35 16 rfl (by decide) (by decide)) $$ He Hw35 HO
  iintro ⟨Hp35, Hd35, HO⟩
  iapply (wait_step m K c 6 16 rfl (by decide) (by decide)) $$ He Hw6 HO
  iintro ⟨Hp6, Hd6, HO⟩
  iapply (wait_step m K c 22 16 rfl (by decide) (by decide)) $$ He Hw22 HO
  iintro ⟨Hp22, Hd22, HO⟩
  iapply (wait_step m K c 8 16 rfl (by decide) (by decide)) $$ He Hw8 HO
  iintro ⟨Hp8, Hd8, HO⟩
  simp only [pay]
  iapply run_ret; iapply HQ
  iframe ∗

end Cert.KernelIdeal.Butterfly

end
-- ==== Proof.Body.lean ====
/-
# The body

The parts in order, on any device: from what a device is dealt to the sum of all four arguments.
-/
module

public import proofs.«01_k».proof.Proof.Pieces
public import proofs.«01_k».proof.Proof.PartsA
public import proofs.«01_k».proof.Proof.PartsB

@[expose] public section

noncomputable section

namespace Cert.KernelIdeal.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

theorem pay_32 (c : Dev nD) : pay m c 32 = iprop(held c cc0_scratch0 0 256 fullShare (A0 m c) ∗ held c main_arg0 (aq c) 256 fullShare (xAt m c)) := rfl
theorem pay_33 (c : Dev nD) : pay m c 33 = iprop(held c cc0_scratch1 0 256 fullShare (B0 m c) ∗ held c main_arg0 (bq c) 256 fullShare (xAt m c)) := rfl
theorem readyX_peer (c : Dev nD) : readyX (F := F) (xp c) = iprop(ready (peer 1 c) 1 ∗ ready (peer 11 c) 11 ∗ ready (peer 2 c) 2 ∗ ready (peer 12 c) 12 ∗ ready (peer 4 c) 4 ∗ ready (peer 14 c) 14 ∗ ready (peer 8 c) 8 ∗ ready (peer 9 c) 9) := rfl
theorem readyY_peer (c : Dev nD) : readyY (F := F) (yp c) = iprop(ready (peer 0 c) 0 ∗ ready (peer 10 c) 10 ∗ ready (peer 3 c) 3 ∗ ready (peer 13 c) 13 ∗ ready (peer 5 c) 5 ∗ ready (peer 15 c) 15 ∗ ready (peer 6 c) 6 ∗ ready (peer 7 c) 7) := rfl

theorem pay_34 (c : Dev nD) : pay m c 34 = iprop(held c main_v1 (aq c + ae c) 128 fullShare (total m) ∗ held c cc0_scratch0 (ae c) 128 fullShare.right.right (A2 m c)) := rfl
theorem pay_35 (c : Dev nD) : pay m c 35 = iprop(held c main_v1 (bq c + be c) 128 fullShare (total m) ∗ held c cc0_scratch1 (be c) 128 fullShare.right.right (B2 m c)) := rfl

/-- The rights to make every transfer. -/
def allSends (c : Dev nD) : sProp 𝕄 := iprop(sendTok c 0 ∗ sendTok c 1 ∗ sendTok c 2 ∗ sendTok c 3 ∗ sendTok c 4 ∗ sendTok c 5 ∗ sendTok c 6 ∗ sendTok c 7 ∗ sendTok c 8 ∗ sendTok c 9 ∗ sendTok c 10 ∗ sendTok c 11 ∗ sendTok c 12 ∗ sendTok c 13 ∗ sendTok c 14 ∗ sendTok c 15)
/-- The rights to wait for every transfer's arrival. -/
def allRecvs (c : Dev nD) : sProp 𝕄 := iprop(waiting c 16 ∗ waiting c 17 ∗ waiting c 18 ∗ waiting c 19 ∗ waiting c 20 ∗ waiting c 21 ∗ waiting c 22 ∗ waiting c 23 ∗ waiting c 24 ∗ waiting c 25 ∗ waiting c 26 ∗ waiting c 27 ∗ waiting c 28 ∗ waiting c 29 ∗ waiting c 30 ∗ waiting c 31)
/-- The rights to make the four local copies. -/
def allLocals (c : Dev nD) : sProp 𝕄 := iprop(localTok c 32 ∗ localTok c 33 ∗ localTok c 34 ∗ localTok c 35)
/-- Every DMA semaphore is done. -/
def allDone (c : Dev nD) : sProp 𝕄 := iprop(done c 0 ∗ done c 1 ∗ done c 2 ∗ done c 3 ∗ done c 4 ∗ done c 5 ∗ done c 6 ∗ done c 7 ∗ done c 8 ∗ done c 9 ∗ done c 10 ∗ done c 11 ∗ done c 12 ∗ done c 13 ∗ done c 14 ∗ done c 15 ∗ done c 16 ∗ done c 17 ∗ done c 18 ∗ done c 19 ∗ done c 20 ∗ done c 21 ∗ done c 22 ∗ done c 23 ∗ done c 24 ∗ done c 25 ∗ done c 26 ∗ done c 27 ∗ done c 28 ∗ done c 29 ∗ done c 30 ∗ done c 31 ∗ done c 32 ∗ done c 33 ∗ done c 34 ∗ done c 35)
/-- The barrier: the rights to signal both neighbours, and to wait for both. -/
def barIn (c : Dev nD) : sProp 𝕄 :=
  iprop(dutyTok ER (bcell (xp c)) 0 false ∗ dutyTok ER (bcell (yp c)) 0 true ∗ cred (tallyAt (bcell c) () 2) ∗ atPos ER (bcell c) 0 ∅ 0)

theorem end_join (c : Dev nD) : iprop(held c main_arg0 (aq c) 256 fullShare (xAt m c) ∗ held c main_arg0 (bq c) 256 fullShare (xAt m c)
      ∗ pay m c 0 ∗ pay m c 1 ∗ pay m c 10 ∗ pay m c 11
      ∗ pay m c 2 ∗ pay m c 12 ∗ pay m c 4 ∗ pay m c 14 ∗ pay m c 6 ∗ pay m c 3 ∗ pay m c 13 ∗ pay m c 5 ∗ pay m c 15 ∗ pay m c 8
      ∗ pay m c 16 ∗ pay m c 26 ∗ pay m c 17 ∗ pay m c 27 ∗ pay m c 18 ∗ pay m c 28 ∗ pay m c 19 ∗ pay m c 29
      ∗ pay m c 34 ∗ pay m c 35 ∗ pay m c 7 ∗ pay m c 9 ∗ pay m c 22 ∗ pay m c 23 ∗ pay m c 24 ∗ pay m c 25) ⊢ memOut m c := by
  iintro ⟨Ha, Hb, P0, P1, P10, P11, P2, P12, P4, P14, P6, P3, P13, P5, P15, P8, P16, P26, P17, P27, P18, P28, P19, P29, P34, P35, P7, P9, P22, P23, P24, P25⟩
  unfold memOut
  isplitl [Ha Hb P0 P1 P10 P11]
  · iapply (arg_join m c); iframe ∗
  ihave P34 := (Entails.of_eq (pay_34 m c)) $$ P34
  icases P34 with ⟨Qa, P34⟩
  ihave P35 := (Entails.of_eq (pay_35 m c)) $$ P35
  icases P35 with ⟨Qb, P35⟩
  isplitl [Qa Qb P7 P9 P22 P23 P24 P25]
  · iapply (out_join m c); iframe ∗
  simp only [pay]
  isplitl [P2 P12 P4 P14 P6 P34]
  · iapply (quarter_join c cc0_scratch0 (two_a c) (A1 m c) (A2 m c)); iframe ∗
  isplitl [P3 P13 P5 P15 P8 P35]
  · iapply (quarter_join c cc0_scratch1 (two_b c) (B1 m c) (B2 m c)); iframe ∗
  isplitl [P16 P26]
  · iapply (paste (F := F) c cc0_scratch2 (n := 128) rfl (two_a c) fullShare (A0in m c) (A0in m c)); iframe ∗
  isplitl [P17 P27]
  · iapply (paste (F := F) c cc0_scratch3 (n := 128) rfl (two_b c) fullShare (B0in m c) (B0in m c)); iframe ∗
  isplitl [P18 P28]
  · iapply (paste (F := F) c cc0_scratch4 (o := 0) (n := 64) (x := 0) (y := 64) rfl (Or.inl ⟨rfl, rfl⟩) fullShare (A1in m c) (A1in m c)); iframe ∗
  iapply (paste (F := F) c cc0_scratch5 (o := 0) (n := 64) (x := 0) (y := 64) rfl (Or.inl ⟨rfl, rfl⟩) fullShare (B1in m c) (B1in m c)); iframe ∗

/-- The first part names the device. -/
theorem part1 (c : Dev nD) (Q : (Σ' (_ : Dev nD) (_ : BitVec 32) (_ : BitVec 32) (_ : BitVec 32) (_ : BitVec 32) (_ : BitVec 32) (_ : BitVec 32) (_ : BitVec 32), BitVec 32) → sProp 𝕄) :
    iprop(∀ v, Q ⟨c, v⟩) ⊢ Run c (onWhole (k0_part1 (F := F))) Q := by
  rw [k0_part1_eq_skeleton]; unfold onWhole k0_part1_skel
  simp only [Prog.lift, Prog.bind_op, Prog.bind_ret, Prog.pure_eq_ret, wp_deviceId]
  iintro HQ
  iapply run_ret; iapply HQ

/-- The body, on device `c`. -/
theorem body_run (c : Dev nD) (Q : PUnit → sProp 𝕄) :
    env m K ⊢ iprop((memIn m c ∗ allSends c ∗ allRecvs c ∗ allLocals c ∗ barIn c ∗ (∃ W, owes (c : Thread nD τ) (dues₀ c) W)) -∗
      ((memOut m c ∗ allDone c ∗ semVal (bcell c) 0 ∗ owing c 16) -∗ Q ⟨⟩) -∗
      Run c (onWhole (cc0_body (F := F))) Q) := by
  rw [cc0_body_eq_skeleton]; unfold onWhole cc0_body_skel
  rw [k0_part17_eq_skeleton]; unfold k0_part17_skel
  simp only [Prog.lift, Prog.bind_op, Prog.bind_ret, Prog.pure_eq_ret, wp_bind]
  unfold allSends allRecvs allLocals barIn
  iintro #He ⟨Hm, ⟨S0, S1, S2, S3, S4, S5, S6, S7, S8, S9, S10, S11, S12, S13, S14, S15⟩, ⟨W16, W17, W18, W19, W20, W21, W22, W23, W24, W25, W26, W27, W28, W29, W30, W31⟩, ⟨T32, T33, T34, T35⟩, ⟨HbX, HbY, Hbc, Hba⟩, HO⟩ HQ
  ihave Hm := (start_split m c) $$ Hm
  icases Hm with ⟨Ha, Hb, P0, P1, P10, P11, H0, H1, RX, RY, Fa, Fb⟩
  iapply (part1 c)
  iintro %v
  rcases v with ⟨v19, v30, v31, v32, v33, v34, v36, w1⟩
  dsimp only
  iapply (part2 m K c _ _ _ _ _ _ _ _ _) $$ He [Ha H0 T32 Hb H1 T33 HO HbX HbY RX RY Hbc Hba]
  · iframe ∗
  iintro ⟨W32, W33, RX, RY, Zb, HO⟩
  iintro %v
  rcases v with ⟨v53, v60, v65, w2⟩
  dsimp only
  ihave RX := (Entails.of_eq (readyX_peer (F := F) c)) $$ RX
  icases RX with ⟨R1, R11, R2, R12, R4, R14, R8, R9⟩
  ihave RY := (Entails.of_eq (readyY_peer (F := F) c)) $$ RY
  icases RY with ⟨R0, R10, R3, R13, R5, R15, R6, R7⟩
  iapply (part3 m K c _ _ _ _ _ _ _ _ _) $$ He [P0 R0 S0 HO]
  · simp only [sending]; iframe ∗
  iintro ⟨W0, HO⟩
  iapply (part4 m K c _ _ _) $$ He [P1 R1 S1 P10 R10 S10 P11 R11 S11 W32 W33 HO]
  · simp only [sending]; iframe ∗
  iintro ⟨W1, W10, W11, ⟨P32, D32⟩, ⟨P33, D33⟩, HO⟩
  ihave P32 := (Entails.of_eq (pay_32 m c)) $$ P32
  icases P32 with ⟨P32, Ha⟩
  ihave P33 := (Entails.of_eq (pay_33 m c)) $$ P33
  icases P33 with ⟨P33, Hb⟩
  ihave P32 := (Entails.of_eq (held_two (F := F) c cc0_scratch0 (n := 128) rfl (two_a c) fullShare (A0 m c))) $$ P32
  icases P32 with ⟨Hae, Hao⟩
  ihave P33 := (Entails.of_eq (held_two (F := F) c cc0_scratch1 (n := 128) rfl (two_b c) fullShare (B0 m c))) $$ P33
  icases P33 with ⟨Hbe, Hbo⟩
  iapply (part5 m K c _ _ _ _) $$ He [W0 W16 W1 W17 Hao HO]
  · iframe ∗
  iintro ⟨⟨P0, D0⟩, ⟨P16, D16⟩, ⟨P1, D1⟩, ⟨P17, D17⟩, Hao, HO⟩
  iapply (part6 m K c _ _ _ _) $$ He [Hao Hbo P17 R2 S2 HO]
  · iframe ∗
  iintro ⟨W2, P12, P3, P13, P17, HO⟩
  iapply (part7 m K c _ _) $$ He [P12 R12 S12 P3 R3 S3 P13 R13 S13 W10 HO]
  · simp only [sending]; iframe ∗
  iintro ⟨W12, W3, W13, ⟨P10, D10⟩, HO⟩
  iapply (part8 m K c _ _ _ _) $$ He [W26 W11 W27 Hae Hbe HO]
  · iframe ∗
  iintro ⟨⟨P26, D26⟩, ⟨P11, D11⟩, ⟨P27, D27⟩, Hae, Hbe, HO⟩
  ihave Hae := (Entails.of_eq (held_add c cc0_scratch0 (ae c) 64 64 fullShare (A1 m c))) $$ Hae
  icases Hae with ⟨Hae, Haf⟩
  iapply (part9 m K c _ _ _ _) $$ He [W2 W18 W3 W19 Hae Hbe HO]
  · iframe ∗
  iintro ⟨⟨P2, D2⟩, ⟨P18, D18⟩, ⟨P3, D3⟩, ⟨P19, D19⟩, Hae, Hbe, HO⟩
  iintro %v
  dsimp only
  ihave Hbe := (Entails.of_eq (held_add c cc0_scratch1 (be c) 64 64 fullShare (B1 m c))) $$ Hbe
  icases Hbe with ⟨Hbe, Hbf⟩
  iapply (part10 m K c _ _ _ _ _ _) $$ He [Hae Hbe P18 P19 R4 S4 R5 S5 HO]
  · iframe ∗
  iintro ⟨W4, W5, Hae, Hbe, P18, P19, HO⟩
  iapply (part11 m K c _ _ _ _) $$ He [W12 W28 W13 W29 Haf HO]
  · iframe ∗
  iintro ⟨⟨P12, D12⟩, ⟨P28, D28⟩, ⟨P13, D13⟩, ⟨P29, D29⟩, Haf, HO⟩
  iintro %v
  dsimp only
  iapply (part12 m K c _ _ _ _ _ _ _ _) $$ He [Haf Hbf P29 R14 S14 HO]
  · iframe ∗
  iintro ⟨W14, Haf, P15, Hbf, P29, HO⟩
  iapply (part13 m K c _ _ _ _ _) $$ He [P15 R15 S15 Hae Haf Hbe Hbf R6 S6 R8 S8 Fa T34 Fb T35 HO]
  · simp only [sending]; iframe ∗
  iintro ⟨W15, W6, W8, W34, W35, HO⟩
  iapply (part14 m K c _ _ _) $$ He [W4 W20 W5 W21 W14 HO]
  · iframe ∗
  iintro ⟨⟨P4, D4⟩, ⟨P20, D20⟩, ⟨P5, D5⟩, ⟨P21, D21⟩, ⟨P14, D14⟩, HO⟩
  iintro %v
  rcases v with ⟨v427, w3⟩
  dsimp only
  iapply (part15 m K c _ _ _ _ _) $$ He [W30 W15 W31 P20 R7 S7 HO]
  · iframe ∗
  iintro ⟨D30, ⟨P15, D15⟩, ⟨P31, D31⟩, W7, HO⟩
  iapply (part16 m K c _ _ _) $$ He [P21 P31 R9 S9 W34 W35 W6 W22 W8 HO]
  · iframe ∗
  iintro ⟨W9, ⟨P34, D34⟩, ⟨P35, D35⟩, ⟨P6, D6⟩, ⟨P22, D22⟩, ⟨P8, D8⟩, HO⟩
  iapply (wait_step m K c 24 16 rfl (by decide) (by decide)) $$ He W24 HO
  iintro ⟨P24, D24, HO⟩
  iapply (wait_step m K c 7 16 rfl (by decide) (by decide)) $$ He W7 HO
  iintro ⟨P7, D7, HO⟩
  iapply (wait_step m K c 23 16 rfl (by decide) (by decide)) $$ He W23 HO
  iintro ⟨P23, D23, HO⟩
  iapply (wait_step m K c 9 16 rfl (by decide) (by decide)) $$ He W9 HO
  iintro ⟨P9, D9, HO⟩
  iapply run_ret
  iapply (wait_step m K c 25 16 rfl (by decide) (by decide)) $$ He W25 HO
  iintro ⟨P25, D25, HO⟩
  iapply run_ret; iapply HQ
  isplitl [P0 P1 P10 P11 P2 P12 P4 P14 P6 P3 P13 P5 P15 P8 P16 P26 P17 P27 P18 P28 P19 P29 P34 P35 P7 P9 P22 P23 P24 P25 Ha Hb]
  · iapply (end_join m c); iframe ∗
  isplitl [D0 D1 D2 D3 D4 D5 D6 D7 D8 D9 D10 D11 D12 D13 D14 D15 D16 D17 D18 D19 D20 D21 D22 D23 D24 D25 D26 D27 D28 D29 D30 D31 D32 D33 D34 D35]
  · unfold allDone; iframe ∗
  iframe ∗

end Cert.KernelIdeal.Butterfly

end
-- ==== Proof.Deal.lean ====
/-
# Dealing the protocol's ghost state

At launch every cell of every device gets its invariant, and each device is dealt its positions at its own cells and
the tokens of the duties it pays: its own sends and local copies, its peers' receives, its neighbours' barriers.
-/
module

public import proofs.«01_k».proof.Proof.Body

@[expose] public section

noncomputable section

namespace Cert.KernelIdeal.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## A device's semaphores, grouped -/

/-- The kernel's own semaphores. -/
abbrev osem : Fin 36 → SemLoc sig := fun i => .dma i

/-- A semaphore is the barrier's or one of the kernel's own, -/
def semOf : Unit ⊕ Fin 36 → SemLoc sig := Sum.elim (fun _ => .reg barS) osem
theorem semOf_bijective : Function.Bijective semOf := by decide +kernel
/-- and one of those is a send's, a receive's or a local copy's. -/
def dmaOf : Fin 16 ⊕ Fin 16 ⊕ Fin 4 → Fin 36 := Sum.elim (fun k => dsem k) (Sum.elim (fun k => dsem (16 + k)) fun k => dsem (32 + k))
theorem dmaOf_bijective : Function.Bijective dmaOf := by decide +kernel

omit [FloatOps F] in
theorem sems_own (Φ : SemLoc sig → sProp 𝕄) :
    bigSep Finset.univ Φ = iprop(Φ (.reg barS) ∗ bigSep Finset.univ fun i : Fin 36 => Φ (osem i)) := by
  rw [bigSep_univ_equiv (Equiv.ofBijective semOf semOf_bijective) Φ, bigSep_univ_sum, bigSep_univ_eq_bigSepL [()] (by decide) (by decide)]
  rfl

omit [FloatOps F] in
theorem sems_split (Φ : SemLoc sig → sProp 𝕄) :
    bigSep Finset.univ Φ = iprop(Φ (.reg barS) ∗ (bigSep Finset.univ fun k : Fin 16 => Φ (.dma (dsem k)))
      ∗ (bigSep Finset.univ fun k : Fin 16 => Φ (.dma (dsem (16 + k)))) ∗ bigSep Finset.univ fun k : Fin 4 => Φ (.dma (dsem (32 + k)))) := by
  rw [sems_own, bigSep_univ_equiv (Equiv.ofBijective dmaOf dmaOf_bijective) (fun i : Fin 36 => Φ (osem i)), bigSep_univ_sum, bigSep_univ_sum]
  rfl

/-! ## The cells and the tokens at launch -/

def kcell (p : Dev nD × SemLoc sig) : GSem nD τ sig := cell p.1 p.2
theorem kcell_injective : Function.Injective kcell := by
  rintro ⟨c, s⟩ ⟨c', s'⟩ h
  have h1 : c = c' := congrArg (fun g : GSem nD τ sig => g.1.1) h
  have h2 : s = s' := congrArg Prod.snd h
  rw [h1, h2]
def allCells : Finset (GSem nD τ sig) := Finset.univ.map ⟨kcell, kcell_injective⟩

/-- A token for each cell and duty name; a DMA cell's second is never used. -/
def ktok (p : Dev nD × SemLoc sig × Bool) : GSem nD τ sig × ℕ × Bool := (cell p.1 p.2.1, 0, p.2.2)
theorem ktok_injective : Function.Injective ktok := by
  rintro ⟨c, s, d⟩ ⟨c', s', d'⟩ h
  have h1 : c = c' := congrArg (fun x : GSem nD τ sig × ℕ × Bool => x.1.1.1) h
  have h2 : s = s' := congrArg (fun x : GSem nD τ sig × ℕ × Bool => x.1.2) h
  have h3 : d = d' := congrArg (fun x : GSem nD τ sig × ℕ × Bool => x.2.2) h
  rw [h1, h2, h3]
def allToks : Finset (GSem nD τ sig × ℕ × Bool) := Finset.univ.map ⟨ktok, ktok_injective⟩

def u₀ : UU := (initOf (Pipeline.cells cfgs cellOf_inj) (Pipeline.launchToks cfgs cellOf_inj), initOf allCells allToks)

/-- The tokens of device `c`'s own cells. -/
def toks (c : Dev nD) : sProp 𝕄 := bigSep Finset.univ fun s : SemLoc sig => iprop(dutyTok ER (cell c s) 0 false ∗ dutyTok ER (cell c s) 0 true)
/-- Its positions. -/
def ats (c : Dev nD) : sProp 𝕄 := bigSep Finset.univ fun s : SemLoc sig => atPos ER (cell c s) 0 ∅ 0

/-- What the launch element deals a device. -/
def G (c : Dev nD) : sProp 𝕄 :=
  iprop((bigSep Finset.univ fun s : SemLoc sig => roundState ER (rd m) (cell c s) 0)
    ∗ (bigSep Finset.univ fun s : SemLoc sig => reached ER (cell c s) 0) ∗ ats c ∗ toks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun s : SemLoc sig => Φ (cell c s) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_prod]
    exact bigSep_congr fun s _ => by rw [bigSep_univ_eq_bigSepL [false, true] (by decide) (by decide)]; rfl
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ats; simp only [bigSep_sep']
  iframe ∗

/-! ## What each device is left with -/

/-- The tokens of the duties device `c` pays. -/
def payToks (c : Dev nD) : sProp 𝕄 :=
  iprop((dutyTok ER (bcell (xp c)) 0 false ∗ dutyTok ER (bcell (yp c)) 0 true)
    ∗ (bigSep Finset.univ fun k : Fin 16 => dutyTok ER (dcell c k) 0 false)
    ∗ (bigSep Finset.univ fun k : Fin 16 => dutyTok ER (dcell (peer k c) (16 + k)) 0 false)
    ∗ bigSep Finset.univ fun k : Fin 4 => dutyTok ER (dcell c (32 + k)) 0 false)

def xpE : Dev nD ≃ Dev nD := ⟨xp, xp, xp_xp, xp_xp⟩
def ypE : Dev nD ≃ Dev nD := ⟨yp, yp, yp_yp, yp_yp⟩
def peerE (k : ℕ) : Dev nD ≃ Dev nD := ⟨peer k, peer k, peer_peer k, peer_peer k⟩

omit [FloatOps F] in
/-- Every device pays each duty of a cell not its own from the other side of an exchange. -/
theorem toks_exchange : (bigSep Finset.univ fun c : Dev nD => (toks c : sProp 𝕄)) ⊢ bigSep Finset.univ fun c : Dev nD => payToks c := by
  have hR : (bigSep Finset.univ fun c : Dev nD => bigSep Finset.univ fun k : Fin 16 => (dutyTok ER (dcell c (16 + k)) 0 false : sProp 𝕄))
      = bigSep Finset.univ fun c : Dev nD => bigSep Finset.univ fun k : Fin 16 => dutyTok ER (dcell (peer k c) (16 + k)) 0 false := by
    rw [BI.bigSep_univ_comm, BI.bigSep_univ_comm (fun (c : Dev nD) (k : Fin 16) => (dutyTok ER (dcell (peer k c) (16 + k)) 0 false : sProp 𝕄))]
    exact bigSep_congr fun k _ => bigSep_univ_equiv (peerE k) _
  have hX : (bigSep Finset.univ fun c : Dev nD => (dutyTok ER (bcell c) 0 false : sProp 𝕄)) = bigSep Finset.univ fun c : Dev nD => dutyTok ER (bcell (xp c)) 0 false :=
    bigSep_univ_equiv xpE _
  have hY : (bigSep Finset.univ fun c : Dev nD => (dutyTok ER (bcell c) 0 true : sProp 𝕄)) = bigSep Finset.univ fun c : Dev nD => dutyTok ER (bcell (yp c)) 0 true :=
    bigSep_univ_equiv ypE _
  unfold toks payToks
  simp only [sems_split, bigSep_sep']
  rw [hR, hX, hY]
  iintro ⟨⟨HX, HS, HR, HL⟩, HY, -⟩
  iframe ∗

def linear (c : Dev nD) : sProp 𝕄 := iprop(ats c ∗ payToks c)

/-- The protocol's records but the levels. -/
def records : sProp 𝕄 :=
  iprop((bigSep Finset.univ fun p : Dev nD × SemLoc sig => cellInv ER (rd m) (K p) (cell p.1 p.2))
    ∗ bigSep Finset.univ fun p : Dev nD × SemLoc sig => reached ER (cell p.1 p.2) 0)

instance records_persistent : BI.Persistent (records m K) := by unfold records; infer_instance

def G' (c : Dev nD) : sProp 𝕄 := iprop(∃ K, records m K ∗ linear c)

omit [FloatOps F] in
/-- The barrier semaphore is the launch's one unscoped semaphore. -/
theorem unscopedSems0_eq (c : Dev nD) : (unscopedSems0 c : sProp 𝕄) = semVal (bcell c) 0 := by
  unfold unscopedSems0; rw [bigSep_eq_bigSepL_of_eq [SemLoc.reg barS] (by decide) (by decide)]; rfl

/-- One device's cells, their invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (rd m) κ (cell c s)))
          ∗ (bigSep Finset.univ fun s : SemLoc sig => reached ER (cell c s) 0) ∗ ats c ∗ toks c) := by
  unfold G Pipeline.ownSems0
  rw [unscopedSems0_eq]
  iintro ⟨Hos, Hus, Hst, Hr, Hat, Htok⟩
  imod (show iprop((semVal (bcell c) 0 ∗ bigSep Finset.univ fun i : Fin 36 => semVal (cell c (osem i)) 0)
        ∗ bigSep Finset.univ fun s : SemLoc sig => roundState ER (rd m) (cell c s) 0)
      ⊢ (|={Set.univ}=> bigSep Finset.univ fun s : SemLoc sig => iprop(∃ κ : ℕ, cellInv ER (rd m) κ (cell c s)) : sProp 𝕄) from by
        rw [← sems_own (fun s => (semVal (cell c s) 0 : sProp 𝕄)), ← bigSep_sep']
        exact (bigSep_mono fun s _ => (Rounds.body_intro ER (rd m) (cell c s)).trans inv_alloc).trans (bigSep_fupd _ _)) $$ [Hos Hus Hst] with Hinv
  · iframe ∗
  imodintro
  iframe ∗

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun s : SemLoc sig => iprop(∃ κ : ℕ, cellInv ER (rd m) κ (cell c s)))
          ∗ (bigSep Finset.univ fun s : SemLoc sig => reached ER (cell c s) 0) ∗ ats c ∗ toks c) : sProp 𝕄)
      ⊢ bigSep Finset.univ (G' m) := by
  simp only [bigSep_sep']
  rw [← bigSep_univ_prod (fun p : Dev nD × SemLoc sig => iprop(∃ κ : ℕ, cellInv ER (rd m) κ (cell p.1 p.2))),
    ← bigSep_univ_prod (fun p : Dev nD × SemLoc sig => (reached ER (cell p.1 p.2) 0 : sProp 𝕄))]
  iintro ⟨HI, #HR, Hat, Htok⟩
  ihave HK := (BI.bigSep_exists_pi Finset.univ (fun (p : Dev nD × SemLoc sig) (κ : ℕ) => (cellInv ER (rd m) κ (cell p.1 p.2) : sProp 𝕄))) $$ HI
  icases HK with ⟨%K, #HI⟩
  ihave Htk := (toks_exchange (F := F)) $$ Htok
  iapply (bigSep_with (R := records m K) (Φ := linear) fun c _ => show iprop(records m K ∗ linear c) ⊢ G' m c from by
    unfold G'; iintro H; iexists K; iexact H)
  unfold records linear
  rw [bigSep_sep']
  isplitr
  · isplitl; · iexact HI
    iexact HR
  iframe ∗

/-- All devices at once, over own and unscoped semaphores. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Butterfly

end
-- ==== Proof.Launch.lean ====
/-
# The launch

Every device runs the body from what it is dealt, so every execution terminates with each device's argument as it was,
its result the total, and every semaphore at zero.
-/
module

public import proofs.«01_k».proof.Proof.Deal
public import Idealize.ShloMosaic.Lib.Pipeline.CollectiveSegs

@[expose] public section

noncomputable section

namespace Cert.KernelIdeal.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × SemLoc sig → ℕ)

/-! ## What a device starts from and ends with -/

/-- What the launch credits a device with for the transfer it is to receive `k`-th. -/
def credAt (c : Dev nD) (k : ℕ) : sProp 𝕄 := cred (tallyAt (dcell c (16 + k)) () (amt (16 + k)))
/-- The same for each transfer of a list. -/
def credits (c : Dev nD) : List ℕ → sProp 𝕄
  | [] => iprop(emp)
  | k :: l => iprop(credits c l ∗ credAt c k)

omit [FloatOps F] in
theorem credits_of (c : Dev nD) (l : List ℕ) : (Pipeline.launchCred (fun d => dues d l) c : sProp 𝕄) ⊢ credits c l := by
  induction l with
  | nil => exact Entails.of_eq (Pipeline.launchCred_zero c)
  | cons k l ih =>
    unfold credits
    simp only [dues]
    rw [Pipeline.launchCred_add]
    exact BI.sep_mono ih (Pipeline.launchCred_tallyAt (.dma (dsem (16 + k))) (peer k) (peer k) (peer_peer k) (peer_peer k) () _ c)

omit [FloatOps F] in
theorem credits_eq (c : Dev nD) : (credits c sends : sProp 𝕄) ⊢ bigSep Finset.univ fun k : Fin 16 => credAt c k := by
  rw [bigSep_univ_eq_bigSepL [9, 7, 8, 6, 15, 14, 5, 4, 13, 3, 12, 2, 11, 10, 1, 0] (by decide) (by decide)]
  show _ ⊢ iprop(credAt c 9 ∗ credAt c 7 ∗ credAt c 8 ∗ credAt c 6 ∗ credAt c 15 ∗ credAt c 14 ∗ credAt c 5 ∗ credAt c 4
    ∗ credAt c 13 ∗ credAt c 3 ∗ credAt c 12 ∗ credAt c 2 ∗ credAt c 11 ∗ credAt c 10 ∗ credAt c 1 ∗ credAt c 0)
  simp only [credits, sends]
  iintro ⟨⟨⟨⟨⟨⟨⟨⟨⟨⟨⟨⟨⟨⟨⟨⟨-, H9⟩, H7⟩, H8⟩, H6⟩, H15⟩, H14⟩, H5⟩, H4⟩, H13⟩, H3⟩, H12⟩, H2⟩, H11⟩, H10⟩, H1⟩, H0⟩
  iframe ∗

omit [FloatOps F] in
theorem launch_credits (c : Dev nD) : (Pipeline.launchCred dues₀ c : sProp 𝕄)
    ⊢ iprop((bigSep Finset.univ fun k : Fin 16 => credAt c k) ∗ cred (tallyAt (bcell c) () 2)) := by
  have h0 : dues₀ = fun d => (dues d sends + tallyAt (bcell (yp d)) () 1) + tallyAt (bcell (xp d)) () 1 := rfl
  rw [h0, Pipeline.launchCred_add, Pipeline.launchCred_add]
  iintro ⟨⟨HC, HY⟩, HX⟩
  ihave HC := ((credits_of (F := F) c sends).trans (credits_eq c)) $$ HC
  ihave HY := (Pipeline.launchCred_tallyAt (.reg barS) yp yp yp_yp yp_yp () 1 c) $$ HY
  ihave HX := (Pipeline.launchCred_tallyAt (.reg barS) xp xp xp_xp xp_xp () 1 c) $$ HX
  isplitl [HC]; · iexact HC
  rw [show (2 : ℕ) = 1 + 1 from rfl, ← tallyAt_add]
  iapply (cred_add _ _).2
  isplitl [HX] <;> iassumption

/-- The rights and credits of a device, before its body runs. -/
def rights (c : Dev nD) : sProp 𝕄 := iprop(allSends c ∗ allRecvs c ∗ allLocals c ∗ barIn c)

omit [FloatOps F] in
theorem allSends_eq (c : Dev nD) : (allSends c : sProp 𝕄) = bigSep Finset.univ fun k : Fin 16 => sendTok c k := by
  rw [bigSep_univ_eq_bigSepL [0, 1, 2, 3, 4, 5, 6, 7, 8, 9, 10, 11, 12, 13, 14, 15] (by decide) (by decide)]; rfl
omit [FloatOps F] in
theorem allRecvs_eq (c : Dev nD) : (allRecvs c : sProp 𝕄) = bigSep Finset.univ fun k : Fin 16 => waiting c (16 + k) := by
  rw [bigSep_univ_eq_bigSepL [0, 1, 2, 3, 4, 5, 6, 7, 8, 9, 10, 11, 12, 13, 14, 15] (by decide) (by decide)]; rfl
omit [FloatOps F] in
theorem allLocals_eq (c : Dev nD) : (allLocals c : sProp 𝕄) = bigSep Finset.univ fun k : Fin 4 => localTok c (32 + k) := by
  rw [bigSep_univ_eq_bigSepL [0, 1, 2, 3] (by decide) (by decide)]; rfl
omit [FloatOps F] in
theorem allDone_eq (c : Dev nD) : (allDone c : sProp 𝕄) = Pipeline.ownSems0 (Ix := Unit) (Name := ℕ) (U := UU) (Lvl := ℕ) (Val := Elt F) (τ := τ) osem c := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35] (by decide) (by decide)]
  rfl

omit [FloatOps F] in
theorem rights_intro (c : Dev nD) : iprop(linear c ∗ Pipeline.launchCred dues₀ c) ⊢ (rights c : sProp 𝕄) := by
  unfold linear ats payToks rights
  rw [allSends_eq, allRecvs_eq, allLocals_eq, sems_split]
  unfold barIn sendTok waiting localTok
  simp only [bigSep_sep']
  iintro ⟨⟨⟨HaB, HaS, HaR, HaL⟩, ⟨HX, HY⟩, HS, HR, HL⟩, HC⟩
  ihave HC := (launch_credits (F := F) c) $$ HC
  icases HC with ⟨HC, HB⟩
  unfold credAt
  iframe ∗

/-- A whole buffer is the band of all its rows. -/
theorem whole_eq (c : Dev nD) (b : Ref sig .tc) (n : ℕ) (h2 : 2 ≤ b.ty.shape.rank) (hn : b.ty.shape.size (b.ty.shape.rowAx h2) ≤ n) (g) :
    heldB (F := F) c b 0 n fullShare g = ((((c : Thread nD τ).loc b) ↦{fullShare} g) : sProp 𝕄) := by
  unfold heldB; rw [band_univ _ n h2 hn]

theorem free_eq (c : Dev nD) (b : Ref sig .tc) (n : ℕ) (h2 : 2 ≤ b.ty.shape.rank) (hn : b.ty.shape.size (b.ty.shape.rowAx h2) ≤ n) :
    free (F := F) c b 0 n = iprop(∃ g : Buf (Elt F) ((c : Thread nD τ).loc b), ((c : Thread nD τ).loc b) ↦{fullShare} g) := by
  unfold free; simp only [whole_eq c b n h2 hn]

theorem arg_eq (c : Dev nD) : held c main_arg0 0 1024 fullShare (xAt m c) = ((((c : Thread nD τ).loc main_arg0) ↦{fullShare} m ((c : Thread nD τ).loc main_arg0)) : sProp 𝕄) := by
  unfold held; rw [lift_xAt, whole_eq c main_arg0 1024 (by decide) (by decide)]

/-- What device `c`'s body starts from, but for the scratch buffers. -/
def start (c : Dev nD) : sProp 𝕄 :=
  iprop((∃ K, env m K) ∗ rights c ∗ held c main_arg0 0 1024 fullShare (xAt m c) ∗ free c main_v1 0 1024)

def Φ₀ (c : Dev nD) : sProp 𝕄 := iprop((∃ K, env m K) ∗ rights c ∗ memIn m c)
def Φ₁ (c : Dev nD) : sProp 𝕄 := iprop(memOut m c ∗ allDone c ∗ semVal (bcell c) 0)

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => dues₀ c
    | ⟨_ + 1, _⟩ => 0

/-! ## The body, as the launch asks for it -/

theorem body_obligation (c : Dev nD) : Pipeline.BodyObligationLoose (dats (F := F) m 0 c) (defs₀ (F := F)) 𝒱₀ () Set.univ := fun t => by
  rw [fin_N0 t]
  show iprop(Φ₀ m c ∗ (dats m 0 c).owesAt () t0_0.castSucc ∗ _) ⊢ Run c (onWhole (cc0_body (F := F))) fun _ =>
    iprop(Φ₁ m c ∗ (dats m 0 c).owesAt () t0_0.succ ∗ _)
  rw [show (Finset.univ : Finset (Fin cfg0.W)) = ∅ from rfl, bigSep_empty, bigSep_empty]
  unfold Φ₀ rights
  iintro ⟨⟨⟨%K, #He⟩, ⟨HS, HR, HL, HB⟩, Hm⟩, HO, -⟩
  iapply (body_run m K c) $$ He [Hm HS HR HL HB HO]
  · unfold Pipeline.Dat.owesAt Pipeline.owesWithin
    icases HO with ⟨%W, -, HO⟩
    iframe ∗
    iexists W; iexact HO
  iintro ⟨Hm, HD, Hb, HO⟩
  unfold Φ₁ owing Pipeline.Dat.owesAt Pipeline.owesWithin
  icases HO with ⟨%W, HO⟩
  isplitl [Hm HD Hb]; · iframe ∗
  isplitl
  · iexists W
    isplitr; · ipureintro; exact fun _ _ => Or.inl trivial
    iexact HO
  · iempintro

/-! ## Into and out of the body -/

theorem ownSemFacts : Pipeline.OwnSemFacts cfg0.spec osem := by decide +kernel

theorem start_intro (c : Dev nD) :
    iprop(Pipeline.unscopedRestP Pipeline.Prefetch.none cfg0.spec c (fun b => m ((c : Thread nD τ).loc b)) ∗ levAts L lv
        ∗ Pipeline.launchCred dues₀ c ∗ prngReg c (ρ c) ∗ G' m c)
      ⊢ |={Set.univ}=> iprop(start m c ∗ emp) := by
  rw [Pipeline.unscopedRestP_none, unscopedRest0_eq]
  unfold G' start records env
  rw [arg_eq, free_eq c main_v1 1024 (by decide) (by decide)]
  iintro ⟨⟨Ha, Ho⟩, #Hlev, Hcr, -, ⟨%K, ⟨#HI, #HR⟩, Hlin⟩⟩
  ihave Hri := (rights_intro (F := F) c) $$ [Hlin Hcr]
  · isplitl [Hlin] <;> iassumption
  imodintro
  isplitl
  · isplitr
    · iexists K
      isplitr; · iexact HI
      isplitr; · iexact HR
      iexact Hlev
    isplitl [Hri]; · iexact Hri
    isplitl [Ha]; · iexact Ha
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start memIn
  rw [free_eq c cc0_scratch0 256 (by decide) (by decide), free_eq c cc0_scratch1 256 (by decide) (by decide),
    free_eq c cc0_scratch2 256 (by decide) (by decide), free_eq c cc0_scratch3 256 (by decide) (by decide),
    free_eq c cc0_scratch4 128 (by decide) (by decide), free_eq c cc0_scratch5 128 (by decide) (by decide)]
  iintro ⟨⟨He, Hr, Ha, Ho⟩, -, Hs⟩
  iframe ∗

/-- What is read at the end: the argument, the result, the barrier semaphore. -/
def finish (c : Dev nD) : sProp 𝕄 :=
  iprop(held c main_arg0 0 1024 fullShare (xAt m c) ∗ held c main_v1 0 1024 fullShare (total m) ∗ unscopedSems0 c)

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq, ← allDone_eq]
  unfold Φ₁ memOut finish
  rw [unscopedSems0_eq, free_eq c cc0_scratch0 256 (by decide) (by decide), free_eq c cc0_scratch1 256 (by decide) (by decide),
    free_eq c cc0_scratch2 256 (by decide) (by decide), free_eq c cc0_scratch3 256 (by decide) (by decide),
    free_eq c cc0_scratch4 128 (by decide) (by decide), free_eq c cc0_scratch5 128 (by decide) (by decide)]
  iintro ⟨⟨Ha, Ho, Hs⟩, Hd, Hb⟩
  iframe ∗

theorem waits (c : Dev nD) : (levAts L lv : sProp 𝕄) ⊢ Pipeline.cellsWaits cfgs (dats m) () 0 c :=
  Pipeline.cellsWaits_intro cfgs (dats m) () 0 c fun w s t => w.elim0

/-! ## The run -/

/-- What the final memory holds of device `c`. -/
def Final (c : Dev nD) (s : MemSt nD τ sig (Elt F)) : Prop :=
  (s.mem ((c : Thread nD τ).loc main_arg0) = m ((c : Thread nD τ).loc main_arg0)
    ∧ s.mem ((c : Thread nD τ).loc main_v1) = lift main_v1 (total m))
  ∧ ∀ sm : SemLoc sig, sm.isScoped .tc = false → s.sem ((c.tc : Thread nD τ), sm) = 0

theorem finish_read (c : Dev nD) (s' : Phys nD τ sig (Elt F)) :
    iprop(finish m c ∗ emp ∗ SI s') ⊢ |={Set.univ}=> iprop(⌜Final m c s'.mem⌝ ∗ SI s') := by
  unfold finish Final
  rw [arg_eq]
  unfold held
  rw [whole_eq c main_v1 1024 (by decide) (by decide)]
  iintro ⟨⟨Ha, Ho, Hu⟩, -, HSI⟩
  ihave %ha := (SI_pointsTo_agree (st := s')) $$ [HSI Ha]
  · isplitl [HSI] <;> iassumption
  ihave %ho := (SI_pointsTo_agree (st := s')) $$ [HSI Ho]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨⟨Buf.eq_of_forall_mem_univ ha, Buf.eq_of_forall_mem_univ ho⟩, hu⟩
  iexact HSI

set_option maxRecDepth 8000 in
/-- From any memory with zero counters, for any float values: every execution terminates, with every device's argument
    unchanged, its result the total, and every semaphore at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = lift main_v1 (total m)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := dues₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := phi0_intro m) (hout := phi1_exit m)
    (QY := Final m) (hY := finish_read m)
    (hQ := fun _ h hs => ⟨fun c => (h c).2.2.1, sem_eq_zero hs fun c => (h c).2.2.2⟩)

end Cert.KernelIdeal.Butterfly

end
-- ==== Proof.Value.lean ====
/-
# The result is the sum

Over the extended reals the four-way sum that the kernel computes in two exchanges is the sum along the first axis of the
whole array, whichever neighbour comes first: addition there is commutative and associative.
-/
module

public import proofs.«01_k».proof.Proof.Launch
public import proofs.«01_k».proof.Proof.Gen.ReferenceIdeal.Run
public import Idealize.ShloMosaic.Lib.IdealHost
public import Idealize.ShloMosaic.Lib.Pointwise.Reduce
public import Idealize.ShloMosaic.PureOps.Ideal.Laws

@[expose] public section

noncomputable section

namespace Cert.KernelIdeal.Butterfly

open Cert.KernelIdeal Cert.KernelIdeal.Gen

open Idealize.ShloMosaic
open Idealize.ShloMosaic.TcCoe
open Idealize.SL.Sem

variable (m : (ℓ : Loc nD τ sig) → Buf (Elt Ideal) ℓ)

/-- A device, its neighbour along one axis, and the same two across the other axis: all four devices, each once. -/
theorem sum_square (S : Dev nD → EReal) (c : Dev nD) : (S c + S (yp c)) + (S (xp c) + S (yp (xp c))) = ∑ k : Fin 4, S k := by
  rw [Fin.sum_univ_four]
  fin_cases c
  · show (S 0 + S 1) + (S 3 + S 2) = _; abel
  · show (S 1 + S 0) + (S 2 + S 3) = _; abel
  · show (S 2 + S 3) + (S 1 + S 0) = _; abel
  · show (S 3 + S 2) + (S 0 + S 1) = _; abel

/-- The neighbours along the two axes, taken in either order, lead to the same device. -/
theorem xp_yp (c : Dev nD) : xp (yp c) = yp (xp c) := by revert c; decide

theorem A2_eq (c : Dev nD) (r j : ℕ) : A2 m c r j = ∑ k : Fin 4, (xAt m k (aq c + r) j : EReal) := by
  unfold A2 A1 A0 A0in
  rw [aq_xp]
  exact sum_square (fun d => xAt m d (aq c + r) j) c

theorem B2_eq (c : Dev nD) (r j : ℕ) : B2 m c r j = ∑ k : Fin 4, (xAt m k (bq c + r) j : EReal) := by
  unfold B2 B1 B0 B0in
  rw [bq_yp, xp_yp]
  refine Eq.trans ?_ (sum_square (fun d => xAt m d (bq c + r) j) c)
  exact add_add_add_comm (xAt m c (bq c + r) j : EReal) (xAt m (xp c) (bq c + r) j) (xAt m (yp c) (bq c + r) j) (xAt m (yp (xp c)) (bq c + r) j)

/-- The quarter of the first half that the device at `(a, b)` of the mesh sums, and of the second. -/
theorem aq_devAt {a b : ℕ} (ha : a < 2) (hb : b < 2) : aq (devAt a b) = 256 * b := by
  interval_cases a <;> interval_cases b <;> decide
theorem bq_devAt {a b : ℕ} (ha : a < 2) (hb : b < 2) : bq (devAt a b) = 512 + 256 * a := by
  interval_cases a <;> interval_cases b <;> decide

/-- Every row of the result is the sum of the four devices' rows. -/
theorem total_eq {r : ℕ} (hr : r < 1024) (j : ℕ) : total m r j = ∑ k : Fin 4, (xAt m k r j : EReal) := by
  unfold total
  split
  · rw [A2_eq, aq_devAt (by omega) (by omega), show 256 * (r / 256) + r % 256 = r by omega]
  · rw [B2_eq, bq_devAt (by omega) (by omega), show 512 + 256 * ((r - 512) / 256) + r % 256 = r by omega]

/-- When every device holds its block of an array, the result is the array's sum along the first axis. -/
theorem lift_total (X : FVec Ideal Cert.ReferenceIdeal.S4x1024x1024 .f32)
    (hX : ∀ c : Dev nD, m ((c : Thread nD τ).loc main_arg0) = Layout.block ⟨3, ![1, 1024, 1024]⟩ ⟨3, ![4, 1024, 1024]⟩ 0 4 c X) :
    (lift main_v1 (total m) : Cert.ReferenceIdeal.S1024x1024.Idx → EReal)
      = Host.reduceAdd X (constant (F := Ideal) Cert.ReferenceIdeal.S_ .f32 0x00000000#32)
          Cert.ReferenceIdeal.Gen.reducesTo_S4x1024x1024_S1024x1024_d0 Cert.ReferenceIdeal.Gen.h_S_ := by
  funext i
  have h0 : (i 0).val < 1024 := (i 0).isLt
  have h1 : (i 1).val < 1024 := (i 1).isLt
  rw [ValueIdx.hostReduceAdd_apply, Ideal.hostReduceAdd_r3_a0]
  have hz : ∀ y z : EReal, z = 0 → z + y = y := fun y z h => by rw [h, zero_add]
  refine Eq.trans ?_ (hz _ _ Ideal.ofBits_zero_f32).symm
  refine (total_eq m h0 (i 1).val).trans (Finset.sum_congr rfl fun k _ => ?_)
  unfold xAt
  rw [hX k]
  refine congrArg X (funext fun a : Fin 3 => Fin.ext ?_)
  fin_cases a
  · show k.val * 1 + 0 = k.val; omega
  · exact Nat.mod_eq_of_lt h0
  · exact Nat.mod_eq_of_lt h1

end Cert.KernelIdeal.Butterfly
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel at the chip's own floats: its run, which holds at any floats. -/
theorem frame_kernel : Cert.quiescent_Kernel (hKernel := Cert.Kernel.Gen.facts) := fun m ρ _ =>
  (θ_run Cert.KernelIdeal.defs _ _).mono (fun _ h => ⟨fun c => (h.1 c).1, h.2⟩)
    (Cert.KernelIdeal.Butterfly.run_main (F := Bits) m ρ)

/-- The same over the extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩)
    (Cert.KernelIdeal.Butterfly.run_main (F := Ideal) m ρ)

/-- The reference is a straight line of host operations that declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the sum that the reference computes. -/
theorem sums : Cert.algebraic_KernelIdeal_ReferenceIdeal (hKernelIdeal := Cert.KernelIdeal.Gen.facts)
    (hReferenceIdeal := Cert.ReferenceIdeal.Gen.facts) := fun m ρ m' ρ' _ hX =>
  ⟨_, (θ_run Cert.KernelIdeal.defs _ _).mono
      (fun _ h c => ⟨(h.1 c).2.trans (Cert.KernelIdeal.Butterfly.lift_total m _ hX), (h.1 c).1⟩)
      (Cert.KernelIdeal.Butterfly.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, sums⟩

end Cert.Proof

end
